-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_and_mask [hPre_labels_and_mask : Cert.Pre_labels_and_mask.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_labels_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_labels_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_labels_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_labels_and_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_mask [hPre_labels_and_mask : Cert.Pre_labels_and_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_labels_and_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_labels_and_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_labels_and_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_labels_and_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labels_and_mask [hKernelIdeal : Cert.KernelIdeal.Facts] [hPre_labels_and_mask : Cert.Pre_labels_and_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labels_and_mask [hReferenceIdeal : Cert.ReferenceIdeal.Facts] [hPre_labels_and_mask : Cert.Pre_labels_and_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_labels_and_mask [hKernelIdeal : Cert.KernelIdeal.Facts] [hReferenceIdeal : Cert.ReferenceIdeal.Facts] [hPre_labels_and_mask : Cert.Pre_labels_and_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_labels_and_mask : Cert.Pre_labels_and_mask.Facts),
    quiescent_Kernel (hKernel := hKernel)
    ∧ quiescent_KernelIdeal (hKernelIdeal := hKernelIdeal)
    ∧ quiescent_KernelIdeal_pre_labels_and_mask (hKernelIdeal := hKernelIdeal) (hPre_labels_and_mask := hPre_labels_and_mask)
    ∧ quiescent_ReferenceIdeal (hReferenceIdeal := hReferenceIdeal)
    ∧ quiescent_ReferenceIdeal_pre_labels_and_mask (hReferenceIdeal := hReferenceIdeal) (hPre_labels_and_mask := hPre_labels_and_mask)
    ∧ preserves_Kernel_KernelIdeal
    ∧ algebraic_KernelIdeal_ReferenceIdeal_pre_labels_and_mask (hKernelIdeal := hKernelIdeal) (hReferenceIdeal := hReferenceIdeal) (hPre_labels_and_mask := hPre_labels_and_mask)
-- ==== Pre_labels_and_mask.lean ====
abbrev S128x512x64 : Shape := ⟨3, ![128, 512, 64]⟩
abbrev S128x512 : Shape := ⟨2, ![128, 512]⟩
abbrev S64x64 : Shape := ⟨2, ![64, 64]⟩
abbrev S64 : Shape := ⟨1, ![64]⟩
abbrev S_ : Shape := ⟨0, ![]⟩

class Facts : Prop where
  bcast_S_S128x512 : S_.BroadcastsInDim S128x512 (![] : Fin 0 → Fin S128x512.rank)
  bcast_S_S128x512x64 : S_.BroadcastsInDim S128x512x64 (![] : Fin 0 → Fin S128x512x64.rank)
  bcast_S_S64x64 : S_.BroadcastsInDim S64x64 (![] : Fin 0 → Fin S64x64.rank)
  bcast_S_S64 : S_.BroadcastsInDim S64 (![] : Fin 0 → Fin S64.rank)

variable [Facts]

def fn_part1 {F : FTy → Type} [FloatOps F] (main_arg2 : IVec S128x512 1) (main_arg5 : FVec F S64 .f32) (main_v4 : IVec S128x512 1) (main_v9 : IVec S128x512x64 1) (main_v14 : IVec S64x64 1) (main_v16 : IVec S64 1) : IVec S128x512 1 × IVec S128x512 1 × IVec S128x512x64 1 × IVec S64x64 1 × IVec S64 1 :=
  let main_cst_5 : FVec F S_ .f32 := constant S_ .f32 0x7F800000#32
  let main_v17 : FVec F S64 .f32 := broadcastInDim S64 ![] bcast_S_S64 main_cst_5
  let main_v18 : IVec S64 1 := cmpf .olt main_arg5 main_v17
  let main_v19 : IVec S64 1 := andi main_v16 main_v18
  (main_v4, main_arg2, main_v9, main_v14, main_v19)

def fn {F : FTy → Type} [FloatOps F] (main_arg0 : FVec F S128x512x64 .f32) (main_arg1 : IVec S128x512 32) (main_arg2 : IVec S128x512 1) (main_arg3 : FVec F S64x64 .f32) (main_arg4 : FVec F S64 .f32) (main_arg5 : FVec F S64 .f32) : IVec S128x512 1 × IVec S128x512 1 × IVec S128x512x64 1 × IVec S64x64 1 × IVec S64 1 :=
  let main_c : IVec S_ 32 := constantI S_ 32 0#32
  let main_v0 : IVec S128x512 32 := broadcastInDim S128x512 ![] bcast_S_S128x512 main_c
  let main_v1 : IVec S128x512 1 := cmpi .sge main_arg1 main_v0
  let main_c_0 : IVec S_ 32 := constantI S_ 32 64#32
  let main_v2 : IVec S128x512 32 := broadcastInDim S128x512 ![] bcast_S_S128x512 main_c_0
  let main_v3 : IVec S128x512 1 := cmpi .slt main_arg1 main_v2
  let main_v4 : IVec S128x512 1 := andi main_v1 main_v3
  let main_cst : FVec F S_ .f32 := constant S_ .f32 0xFF800000#32
  let main_v5 : FVec F S128x512x64 .f32 := broadcastInDim S128x512x64 ![] bcast_S_S128x512x64 main_cst
  let main_v6 : IVec S128x512x64 1 := cmpf .ogt main_arg0 main_v5
  let main_cst_1 : FVec F S_ .f32 := constant S_ .f32 0x7F800000#32
  let main_v7 : FVec F S128x512x64 .f32 := broadcastInDim S128x512x64 ![] bcast_S_S128x512x64 main_cst_1
  let main_v8 : IVec S128x512x64 1 := cmpf .olt main_arg0 main_v7
  let main_v9 : IVec S128x512x64 1 := andi main_v6 main_v8
  let main_cst_2 : FVec F S_ .f32 := constant S_ .f32 0xFF800000#32
  let main_v10 : FVec F S64x64 .f32 := broadcastInDim S64x64 ![] bcast_S_S64x64 main_cst_2
  let main_v11 : IVec S64x64 1 := cmpf .ogt main_arg3 main_v10
  let main_cst_3 : FVec F S_ .f32 := constant S_ .f32 0x7F800000#32
  let main_v12 : FVec F S64x64 .f32 := broadcastInDim S64x64 ![] bcast_S_S64x64 main_cst_3
  let main_v13 : IVec S64x64 1 := cmpf .olt main_arg3 main_v12
  let main_v14 : IVec S64x64 1 := andi main_v11 main_v13
  let main_cst_4 : FVec F S_ .f32 := constant S_ .f32 0xFF800000#32
  let main_v15 : FVec F S64 .f32 := broadcastInDim S64 ![] bcast_S_S64 main_cst_4
  let main_v16 : IVec S64 1 := cmpf .ogt main_arg5 main_v15
  fn_part1 (F := F) main_arg2 main_arg5 main_v4 main_v9 main_v14 main_v16
-- ==== Kernel.lean ====
abbrev S128x512x64 : Shape := ⟨3, ![128, 512, 64]⟩
abbrev S128x512 : Shape := ⟨2, ![128, 512]⟩
abbrev S64x64 : Shape := ⟨2, ![64, 64]⟩
abbrev S64 : Shape := ⟨1, ![64]⟩
abbrev S1x64 : Shape := ⟨2, ![1, 64]⟩
abbrev S1x1 : Shape := ⟨2, ![1, 1]⟩
abbrev S32x512x64 : Shape := ⟨3, ![32, 512, 64]⟩
abbrev S32x512 : Shape := ⟨2, ![32, 512]⟩
abbrev S8x64 : Shape := ⟨2, ![8, 64]⟩
abbrev S512x64 : Shape := ⟨2, ![512, 64]⟩
abbrev S512x32 : Shape := ⟨2, ![512, 32]⟩
abbrev S511x32 : Shape := ⟨2, ![511, 32]⟩
abbrev S1x32 : Shape := ⟨2, ![1, 32]⟩
abbrev S16x512x64 : Shape := ⟨3, ![16, 512, 64]⟩
abbrev S8192x64 : Shape := ⟨2, ![8192, 64]⟩
abbrev S512x1 : Shape := ⟨2, ![512, 1]⟩
abbrev S1x1x64 : Shape := ⟨3, ![1, 1, 64]⟩
abbrev S1 : Shape := ⟨1, ![1]⟩
abbrev S1x64x64 : Shape := ⟨3, ![1, 64, 64]⟩
abbrev S1x1x1 : Shape := ⟨3, ![1, 1, 1]⟩

abbrev nBuf : Space → Nat
  | .hbm => 9
  | .vmem => 10
  | .smem => 0
  | _ => 0

abbrev bufTy : (tb : Table) → Fin (tcTables nBuf tb) → BufTy
  | .hbm, ⟨0, _⟩ => ⟨S128x512x64, .f32⟩
  | .hbm, ⟨1, _⟩ => ⟨S128x512, .i32⟩
  | .hbm, ⟨2, _⟩ => ⟨S128x512, .i1⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S1x1, .f32⟩
  | .local _ .vmem, ⟨0, _⟩ => ⟨S32x512x64, .f32⟩
  | .local _ .vmem, ⟨1, _⟩ => ⟨S32x512x64, .f32⟩
  | .local _ .vmem, ⟨2, _⟩ => ⟨S32x512, .i32⟩
  | .local _ .vmem, ⟨3, _⟩ => ⟨S32x512, .i32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x1, .f32⟩
  | .local _ .vmem, ⟨8, _⟩ => ⟨S8x64, .f32⟩
  | .local _ .vmem, ⟨9, _⟩ => ⟨S64x64, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_156 : BitVec 32 := 0#32
  let v593 : BitVec 1 := Scalar.cmpi .eq arg0 c0_i32_156
  let v594 : BitVec 32 := Scalar.extui v593
  let c0_i32_157 : BitVec 32 := 0#32
  let v595 : BitVec 1 := Scalar.cmpi .ne v594 c0_i32_157
  v595

def k0_cond2 (i : grid0.Coords) : BitVec 1 :=
  let arg0 : BitVec 32 := BitVec.ofNat 32 (i 0).val
  let c3_i32 : BitVec 32 := 3#32
  let v621 : BitVec 1 := Scalar.cmpi .eq arg0 c3_i32
  let v622 : BitVec 32 := Scalar.extui v621
  let c0_i32_175 : BitVec 32 := 0#32
  let v623 : BitVec 1 := Scalar.cmpi .ne v622 c0_i32_175
  v623

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S128x512x64 : Shape := ⟨3, ![128, 512, 64]⟩
abbrev S128x512 : Shape := ⟨2, ![128, 512]⟩
abbrev S64x64 : Shape := ⟨2, ![64, 64]⟩
abbrev S64 : Shape := ⟨1, ![64]⟩
abbrev S512x128x64 : Shape := ⟨3, ![512, 128, 64]⟩
abbrev S512x128 : Shape := ⟨2, ![512, 128]⟩
abbrev S1x1x64x64 : Shape := ⟨4, ![1, 1, 64, 64]⟩
abbrev S512x128x1x64 : Shape := ⟨4, ![512, 128, 1, 64]⟩
abbrev S512x128x64x64 : Shape := ⟨4, ![512, 128, 64, 64]⟩
abbrev S_ : Shape := ⟨0, ![]⟩
abbrev S512x128x64x1 : Shape := ⟨4, ![512, 128, 64, 1]⟩
abbrev S128 : Shape := ⟨1, ![128]⟩
abbrev S1x128 : Shape := ⟨2, ![1, 128]⟩
abbrev S1x1x64 : Shape := ⟨3, ![1, 1, 64]⟩
abbrev S512x128x1 : Shape := ⟨3, ![512, 128, 1]⟩
abbrev S1 : Shape := ⟨1, ![1]⟩
abbrev S511x128 : Shape := ⟨2, ![511, 128]⟩
abbrev S511x128x1 : Shape := ⟨3, ![511, 128, 1]⟩
abbrev S511x128x2 : Shape := ⟨3, ![511, 128, 2]⟩
abbrev S512x128x1x1 : Shape := ⟨4, ![512, 128, 1, 1]⟩
abbrev S1x1x1x1 : Shape := ⟨4, ![1, 1, 1, 1]⟩
abbrev S128x1 : Shape := ⟨2, ![128, 1]⟩
abbrev S128x2 : Shape := ⟨2, ![128, 2]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S128x512x64, .f32⟩
  | 1 => ⟨S128x512, .i32⟩
  | 2 => ⟨S128x512, .i1⟩
  | 3 => ⟨S64x64, .f32⟩
  | 4 => ⟨S64, .f32⟩
  | 5 => ⟨S64, .f32⟩
  | 6 => ⟨S512x128x64, .f32⟩
  | 7 => ⟨S512x128, .i32⟩
  | 8 => ⟨S512x128, .i1⟩
  | 9 => ⟨S1x1x64x64, .f32⟩
  | 10 => ⟨S512x128x1x64, .f32⟩
  | 11 => ⟨S512x128x64x64, .f32⟩
  | 12 => ⟨S512x128x64x64, .f32⟩
  | 13 => ⟨S512x128x64x64, .f32⟩
  | 14 => ⟨S_, .f32⟩
  | 15 => ⟨S512x128x64, .f32⟩
  | 16 => ⟨S512x128x64x1, .f32⟩
  | 17 => ⟨S512x128x64x64, .f32⟩
  | 18 => ⟨S512x128x64x64, .f32⟩
  | 19 => ⟨S512x128x64x64, .f32⟩
  | 20 => ⟨S_, .f32⟩
  | 21 => ⟨S512x128x64, .f32⟩
  | 22 => ⟨S512x128x64, .f32⟩
  | 23 => ⟨S512x128x64, .f32⟩
  | 24 => ⟨S512x128x64, .f32⟩
  | 25 => ⟨S128, .i32⟩
  | 26 => ⟨S_, .i32⟩
  | 27 => ⟨S128, .i32⟩
  | 28 => ⟨S128, .i1⟩
  | 29 => ⟨S1x128, .i1⟩
  | 30 => ⟨S512x128, .i1⟩
  | 31 => ⟨S512x128, .i1⟩
  | 32 => ⟨S1x1x64, .f32⟩
  | 33 => ⟨S64, .f32⟩
  | 34 => ⟨S512x128x1, .i1⟩
  | 35 => ⟨S_, .f32⟩
  | 36 => ⟨S_, .f32⟩
  | 37 => ⟨S512x128x64, .i1⟩
  | 38 => ⟨S512x128x64, .f32⟩
  | 39 => ⟨S512x128x64, .f32⟩
  | 40 => ⟨S_, .f32⟩
  | 41 => ⟨S64, .f32⟩
  | 42 => ⟨S64, .f32⟩
  | 43 => ⟨S_, .f32⟩
  | 44 => ⟨S_, .f32⟩
  | 45 => ⟨S1, .f32⟩
  | 46 => ⟨S64, .f32⟩
  | 47 => ⟨S64, .f32⟩
  | 48 => ⟨S64, .f32⟩
  | 49 => ⟨S_, .f32⟩
  | 50 => ⟨S_, .f32⟩
  | 51 => ⟨S_, .f32⟩
  | 52 => ⟨S_, .f32⟩
  | 53 => ⟨S_, .f32⟩
  | 54 => ⟨S511x128, .i32⟩
  | 55 => ⟨S511x128, .i32⟩
  | 56 => ⟨S_, .i32⟩
  | 57 => ⟨S511x128, .i32⟩
  | 58 => ⟨S511x128, .i1⟩
  | 59 => ⟨S_, .i32⟩
  | 60 => ⟨S511x128, .i32⟩
  | 61 => ⟨S511x128, .i32⟩
  | 62 => ⟨S511x128, .i32⟩
  | 63 => ⟨S_, .i32⟩
  | 64 => ⟨S511x128, .i32⟩
  | 65 => ⟨S511x128, .i1⟩
  | 66 => ⟨S_, .i32⟩
  | 67 => ⟨S511x128, .i32⟩
  | 68 => ⟨S511x128, .i32⟩
  | 69 => ⟨S511x128, .i32⟩
  | 70 => ⟨S511x128x1, .i32⟩
  | 71 => ⟨S511x128x1, .i32⟩
  | 72 => ⟨S511x128x2, .i32⟩
  | 73 => ⟨S511x128, .f32⟩
  | 74 => ⟨S512x128x1, .i32⟩
  | 75 => ⟨S_, .i32⟩
  | 76 => ⟨S512x128x1, .i32⟩
  | 77 => ⟨S512x128x1, .i1⟩
  | 78 => ⟨S_, .i32⟩
  | 79 => ⟨S512x128x1, .i32⟩
  | 80 => ⟨S512x128x1, .i32⟩
  | 81 => ⟨S512x128x1, .i32⟩
  | 82 => ⟨S512x128x1x1, .i32⟩
  | 83 => ⟨S1, .i32⟩
  | 84 => ⟨S_, .i32⟩
  | 85 => ⟨S512x128x1x1, .i32⟩
  | 86 => ⟨S512x128x1x1, .i1⟩
  | 87 => ⟨S1x1x1x1, .i32⟩
  | 88 => ⟨S512x128x1x1, .i32⟩
  | 89 => ⟨S512x128x1x1, .i1⟩
  | 90 => ⟨S512x128x1x1, .i1⟩
  | 91 => ⟨S_, .i1⟩
  | 92 => ⟨S512x128x1, .i1⟩
  | 93 => ⟨S512x128x1, .f32⟩
  | 94 => ⟨S_, .f32⟩
  | 95 => ⟨S512x128x1, .f32⟩
  | 96 => ⟨S512x128x1, .f32⟩
  | 97 => ⟨S512x128, .f32⟩
  | 98 => ⟨S_, .f32⟩
  | 99 => ⟨S_, .f32⟩
  | 100 => ⟨S512x128, .f32⟩
  | 101 => ⟨S512x128, .f32⟩
  | 102 => ⟨S_, .f32⟩
  | 103 => ⟨S_, .f32⟩
  | 104 => ⟨S511x128, .i1⟩
  | 105 => ⟨S_, .f32⟩
  | 106 => ⟨S_, .f32⟩
  | 107 => ⟨S511x128, .f32⟩
  | 108 => ⟨S511x128, .f32⟩
  | 109 => ⟨S_, .f32⟩
  | 110 => ⟨S_, .f32⟩
  | 111 => ⟨S_, .f32⟩
  | 112 => ⟨S512x128, .i32⟩
  | 113 => ⟨S_, .i32⟩
  | 114 => ⟨S128, .i32⟩
  | 115 => ⟨S_, .i32⟩
  | 116 => ⟨S128, .i32⟩
  | 117 => ⟨S128, .i32⟩
  | 118 => ⟨S1x128, .i32⟩
  | 119 => ⟨S128, .i32⟩
  | 120 => ⟨S_, .i32⟩
  | 121 => ⟨S128, .i32⟩
  | 122 => ⟨S128, .i1⟩
  | 123 => ⟨S_, .i32⟩
  | 124 => ⟨S128, .i32⟩
  | 125 => ⟨S128, .i32⟩
  | 126 => ⟨S128, .i32⟩
  | 127 => ⟨S128x1, .i32⟩
  | _ => ⟨S128x512x64, .f32⟩

abbrev hbmTy0_1 (i : Nat) : BufTy := match i % 128 with
  | 0 => ⟨S128, .f32⟩
  | 1 => ⟨S_, .f32⟩
  | 2 => ⟨S_, .f32⟩
  | 3 => ⟨S_, .f32⟩
  | 4 => ⟨S128, .i32⟩
  | 5 => ⟨S_, .i32⟩
  | 6 => ⟨S128, .i32⟩
  | 7 => ⟨S128, .i1⟩
  | 8 => ⟨S_, .i32⟩
  | 9 => ⟨S128, .i32⟩
  | 10 => ⟨S128, .i32⟩
  | 11 => ⟨S128, .i32⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S128x1, .i32⟩
  | 21 => ⟨S128x2, .i32⟩
  | 22 => ⟨S128, .i32⟩
  | 23 => ⟨S_, .i32⟩
  | 24 => ⟨S128, .i32⟩
  | 25 => ⟨S128, .i1⟩
  | 26 => ⟨S_, .i32⟩
  | 27 => ⟨S128, .i32⟩
  | 28 => ⟨S128, .i32⟩
  | 29 => ⟨S128, .i32⟩
  | 30 => ⟨S128x1, .i32⟩
  | 31 => ⟨S128, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1x1, .f32⟩
  | _ => ⟨S128x512x64, .f32⟩

abbrev hbmTy (i : Nat) : BufTy := match i / 128 with
  | 0 => hbmTy0_0 i
  | 1 => hbmTy0_1 i
  | _ => ⟨S128x512x64, .f32⟩

abbrev bufTy : (tb : Table) → Fin (tcTables nBuf tb) → BufTy
  | .hbm, ⟨i, _⟩ => hbmTy i
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_cst : Ref sig .tc := ⟨.hbm, 94, rfl⟩
abbrev main_call1_v14 : Ref sig .tc := ⟨.hbm, 95, rfl⟩
abbrev main_v55 : Ref sig .tc := ⟨.hbm, 96, rfl⟩
abbrev main_v56 : Ref sig .tc := ⟨.hbm, 97, rfl⟩
abbrev main_cst_9 : Ref sig .tc := ⟨.hbm, 98, rfl⟩
abbrev main_call2_v0 : Ref sig .tc := ⟨.hbm, 99, rfl⟩
abbrev main_call2_v1 : Ref sig .tc := ⟨.hbm, 100, rfl⟩
abbrev main_v57 : Ref sig .tc := ⟨.hbm, 101, rfl⟩
abbrev main_cst_10 : Ref sig .tc := ⟨.hbm, 102, rfl⟩
abbrev main_v58 : Ref sig .tc := ⟨.hbm, 103, rfl⟩
abbrev main_v59 : Ref sig .tc := ⟨.hbm, 104, rfl⟩
abbrev main_cst_11 : Ref sig .tc := ⟨.hbm, 105, rfl⟩
abbrev main_call3_v0 : Ref sig .tc := ⟨.hbm, 106, rfl⟩
abbrev main_call3_v1 : Ref sig .tc := ⟨.hbm, 107, rfl⟩
abbrev main_v60 : Ref sig .tc := ⟨.hbm, 108, rfl⟩
abbrev main_cst_12 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_13 : Ref sig .tc := ⟨.hbm, 113, rfl⟩
abbrev main_v64 : Ref sig .tc := ⟨.hbm, 114, rfl⟩
abbrev main_c_14 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_c_15 : Ref sig .tc := ⟨.hbm, 120, rfl⟩
abbrev main_v69 : Ref sig .tc := ⟨.hbm, 121, rfl⟩
abbrev main_v70 : Ref sig .tc := ⟨.hbm, 122, rfl⟩
abbrev main_c_16 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_17 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_c_18 : Ref sig .tc := ⟨.hbm, 133, rfl⟩
abbrev main_v79 : Ref sig .tc := ⟨.hbm, 134, rfl⟩
abbrev main_v80 : Ref sig .tc := ⟨.hbm, 135, rfl⟩
abbrev main_c_19 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_c_20 : Ref sig .tc := ⟨.hbm, 140, rfl⟩
abbrev main_v84 : Ref sig .tc := ⟨.hbm, 141, rfl⟩
abbrev main_v85 : Ref sig .tc := ⟨.hbm, 142, rfl⟩
abbrev main_c_21 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_c_22 : Ref sig .tc := ⟨.hbm, 151, rfl⟩
abbrev main_v93 : Ref sig .tc := ⟨.hbm, 152, rfl⟩
abbrev main_v94 : Ref sig .tc := ⟨.hbm, 153, rfl⟩
abbrev main_c_23 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_24 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_25 : Ref sig .tc := ⟨.hbm, 164, rfl⟩
abbrev main_v103 : Ref sig .tc := ⟨.hbm, 165, rfl⟩
abbrev main_v104 : Ref sig .tc := ⟨.hbm, 166, rfl⟩

abbrev nD : Nat := 1
abbrev τ : Topo := Topo.v7x

variable {F : FTy → Type} [FloatOps F]
-- ==== Proof.Math.lean ====
module

public import Idealize.ShloMosaic.Lib.Pointwise
public import Mathlib.Analysis.SpecialFunctions.Log.Basic
public import Mathlib.Algebra.BigOperators.Fin

/-! The mathematics both programs compute, over the reals, with the facts on extended reals that read either program's
    arithmetic as it: a log of a sum of exponentials with some real number taken out, sums against one-hot rows, and
    a sum over all rows taken as a sum over blocks of rows. -/

@[expose] public section
noncomputable section

namespace Cert.Crf
open Idealize.ShloMosaic

/-- The word the maxima start from is minus infinity. -/
theorem negInf : Ideal.ofBits .f32 4286578688#32 = ⊥ := by simp [Ideal.ofBits, Ideal.ieee]
theorem zeroBits : Ideal.ofBits .f32 0#32 = 0 := by simp [Ideal.ofBits, Ideal.ieee]
theorem oneBits : Ideal.ofBits .f32 1065353216#32 = 1 := by
  simp [Ideal.ofBits, Ideal.ieee, -EReal.coe_mul]; norm_num
theorem stepsBits : Ideal.ofBits .f32 1199439872#32 = ((65024 : ℝ) : EReal) := by
  simp [Ideal.ofBits, Ideal.ieee, -EReal.coe_mul]; norm_num

/-- A sum of real numbers is a real number. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many real numbers, started from minus infinity, is a real number. -/
theorem fold_max_real {n : ℕ} (f : Fin (n + 1) → EReal) (g : Fin (n + 1) → ℝ) (h : ∀ x, f x = g x) :
    ∃ M : ℝ, Finset.fold max (Ideal.ofBits .f32 4286578688#32) f Finset.univ = (M : EReal) := by
  rw [negInf]
  have key : ∀ s : Finset (Fin (n + 1)), s.Nonempty → ∃ M : ℝ, Finset.fold max (⊥ : EReal) f s = (M : EReal) := by
    intro s hs
    induction hs using Finset.Nonempty.cons_induction with
    | singleton a => exact ⟨g a, by simp [h]⟩
    | cons a s ha _ ih =>
      obtain ⟨M, hM⟩ := ih
      exact ⟨max (g a) M, by rw [Finset.fold_cons, hM, h]; exact (EReal.coe_strictMono.monotone.map_max).symm⟩
  exact key _ Finset.univ_nonempty

theorem exp_coe (x : ℝ) : Ideal.exp (x : EReal) = ((Real.exp x : ℝ) : EReal) := by
  simp [Ideal.exp_def]

theorem log_coe {x : ℝ} (h : 0 < x) : Ideal.log (x : EReal) = ((Real.log x : ℝ) : EReal) := by
  simp [Ideal.log_def, not_le.mpr h]

theorem sum_exp_pos {n : ℕ} (f : Fin (n + 1) → ℝ) : 0 < ∑ x, Real.exp (f x) :=
  Finset.sum_pos (fun x _ => Real.exp_pos _) Finset.univ_nonempty

/-- The log of the sum of the exponentials. -/
def lse {n : ℕ} (f : Fin n → ℝ) : ℝ := Real.log (∑ x, Real.exp (f x))

theorem lse_sub {n : ℕ} (f : Fin (n + 1) → ℝ) (M : ℝ) : Real.log (∑ x, Real.exp (f x - M)) = lse f - M := by
  have h : ∑ x, Real.exp (f x - M) = (∑ x, Real.exp (f x)) * Real.exp (-M) := by
    rw [Finset.sum_mul]; exact Finset.sum_congr rfl fun x _ => by rw [← Real.exp_add, sub_eq_add_neg]
  rw [h, Real.log_mul (sum_exp_pos f).ne' (Real.exp_pos _).ne', Real.log_exp, lse, sub_eq_add_neg]

/-- Whatever real number is taken out of the exponents and put back, the log of the sum of the exponentials is the same. -/
theorem log_sum_exp_sub {n : ℕ} (f : Fin (n + 1) → ℝ) (M : ℝ) :
    Ideal.log (∑ x, Ideal.exp ((f x : EReal) - (M : EReal))) = ((lse f - M : ℝ) : EReal) := by
  simp only [← EReal.coe_sub, exp_coe]
  rw [coe_sum, log_coe (sum_exp_pos _), lse_sub]

/-- The same with the exponentials of two terms multiplied, the number taken out of one of them. -/
theorem log_sum_exp_mul {n : ℕ} (e t : Fin (n + 1) → ℝ) (M : ℝ) :
    Ideal.log (∑ x, Ideal.exp (e x : EReal) * Ideal.exp ((t x : EReal) - (M : EReal)))
      = ((lse (fun x => t x + e x) - M : ℝ) : EReal) := by
  rw [← log_sum_exp_sub]
  refine congrArg _ (Finset.sum_congr rfl fun x _ => ?_)
  rw [← EReal.coe_sub, exp_coe, exp_coe, ← EReal.coe_mul, ← Real.exp_add, ← EReal.coe_sub, exp_coe]
  congr 2; ring

/-- A sum over rows numbered through is the sum over blocks of the sums over a block's rows. -/
theorem sum_rows {M : Type} [AddCommMonoid M] (m n : ℕ) (f : Fin m → Fin n → M) :
    ∑ r : Fin (m * n), f r.divNat r.modNat = ∑ b, ∑ s, f b s := by
  rw [← Fintype.sum_prod_type']
  exact Fintype.sum_equiv finProdFinEquiv.symm _ _ fun r => rfl

theorem sum8192 {M : Type} [AddCommMonoid M] (f : Fin 16 → Fin 512 → M) :
    ∑ r : Fin 8192, f ⟨r.val / 512, by omega⟩ ⟨r.val % 512, by omega⟩ = ∑ b, ∑ s, f b s := sum_rows 16 512 f

theorem sum_halves {M : Type} [AddCommMonoid M] (f : Fin 32 → M) :
    ∑ b, f b = ∑ n : Fin 16, f ⟨n.val, by omega⟩ + ∑ n : Fin 16, f ⟨16 + n.val, by omega⟩ := Fin.sum_univ_add (a := 16) (b := 16) f

theorem sum_blocks {M : Type} [AddCommMonoid M] (f : Fin 128 → M) :
    ∑ B, f B = ∑ n : Fin 4, ∑ b : Fin 32, f ⟨32 * n.val + b.val, by omega⟩ := by
  rw [← Fintype.sum_prod_type']
  refine (Fintype.sum_equiv (finProdFinEquiv (m := 4) (n := 32)) _ _ fun x => congrArg f (Fin.ext ?_)).symm
  show 32 * x.1.val + x.2.val = x.2.val + 32 * x.1.val
  omega

/-- One where two labels agree. -/
def one (l p : Fin 64) : ℝ := if l = p then 1 else 0

/-- One where the label after step `s` is `k`; nothing comes after the last step. -/
def next (row : Fin 512 → Fin 64) (s : Fin 512) (k : Fin 64) : ℝ := if h : s.val < 511 then one (row ⟨1 + s.val, by omega⟩) k else 0

end Cert.Crf
end
-- ==== Proof.Spec.lean ====
module

public import proofs.«01_k».proof.Proof.Math

/-! The mathematics of the field's loss: over real scores `e` of the labels at each step, given labels `lab`, real transition
    scores `T` and end scores `en`, and start scores `st` that may be infinite. -/

@[expose] public section
noncomputable section

namespace Cert.Crf
open Idealize.ShloMosaic

variable (e : Fin 128 → Fin 512 → Fin 64 → ℝ) (lab : Fin 128 → Fin 512 → Fin 64) (T : Fin 64 → Fin 64 → ℝ) (en : Fin 64 → ℝ)
  (st : Fin 64 → EReal)

/-- One step's contribution to label `p`. -/
def ell (b : Fin 128) (s : Fin 512) (p : Fin 64) : ℝ := lse fun k => T p k + e b s k

/-- What all steps of all sequences but the first add up to on top of the first scores. -/
def alpha (p : Fin 64) : ℝ := e 0 0 p + ∑ s : Fin 512, ∑ b : Fin 128, if b = 0 then 0 else ell e T b s p

/-- The scores of the given labels. -/
def emitScore : ℝ := ∑ b : Fin 128, ∑ s : Fin 512, e b s (lab b s)

/-- The scores of the given labels' transitions. -/
def transScore : ℝ := ∑ b : Fin 128, ∑ s : Fin 511, T (lab b s.castSucc) (lab b s.succ)

/-- The loss, as the reference takes it. -/
def answer : EReal :=
  Ideal.div ((lse (alpha e T) : EReal) - ((emitScore e lab : EReal) + (transScore lab T : EReal) + ∑ b, st (lab b 0)
    + ((∑ b, en (lab b 511) : ℝ) : EReal))) (Ideal.ofBits .f32 1124073472#32)

end Cert.Crf
end
-- ==== Proof.RefValue.lean ====
module

public import proofs.«01_k».proof.Proof.Gen.ReferenceIdeal.Read
public import proofs.«01_k».proof.Proof.Spec

/-! The reference's result under the claim's condition: every label one of the 64, no step masked, and the floats of emit,
    transitions and etrans real numbers. -/

@[expose] public section
set_option maxRecDepth 16384
noncomputable section

namespace Cert.ReferenceIdeal.Read
open Cert.ReferenceIdeal Cert.ReferenceIdeal.Gen Idealize.ShloMosaic Idealize.SL.Sem Cert.Crf

/-- The gather of the transitions' entries: row and column read off the start indices, held within the table. -/
theorem gatherT {α : Type} (x : S64x64.Idx → α) (idx : IVec S511x128x2 32) (s : Fin 511) (b : Fin 128) :
    Host.gather gather_S64x64_S511x128x2_S511x128_n_01_n_n_01_2_11 x idx (ix2 s b)
      = x (ix2 ⟨min (idx (ix3 s b 0)).toInt.toNat 63, by omega⟩ ⟨min (idx (ix3 s b 1)).toInt.toNat 63, by omega⟩) := by
  unfold Host.gather
  congr 1
  funext a
  refine Fin.ext ?_
  have h0 : GatherDims.siIdx gather_S64x64_S511x128x2_S511x128_n_01_n_n_01_2_11 (ix2 s b) ⟨0, by decide⟩ = ix3 s b 0 := by
    funext c; refine Fin.ext ?_
    match c with
    | ⟨0, _⟩ => rfl
    | ⟨1, _⟩ => rfl
    | ⟨2, _⟩ => rfl
  have h1 : GatherDims.siIdx gather_S64x64_S511x128x2_S511x128_n_01_n_n_01_2_11 (ix2 s b) ⟨1, by decide⟩ = ix3 s b 1 := by
    funext c; refine Fin.ext ?_
    match c with
    | ⟨0, _⟩ => rfl
    | ⟨1, _⟩ => rfl
    | ⟨2, _⟩ => rfl
  match a with
  | ⟨0, _⟩ =>
    show min (idx (GatherDims.siIdx gather_S64x64_S511x128x2_S511x128_n_01_n_n_01_2_11 (ix2 s b) ⟨0, by decide⟩)).toInt.toNat 63 + 0 + 0 = _
    rw [h0]; rfl
  | ⟨1, _⟩ =>
    show min (idx (GatherDims.siIdx gather_S64x64_S511x128x2_S511x128_n_01_n_n_01_2_11 (ix2 s b) ⟨1, by decide⟩)).toInt.toNat 63 + 0 + 0 = _
    rw [h1]; rfl

/-- The gather of one label's score per step. -/
theorem gatherE {α : Type} (x : S512x128x64.Idx → α) (idx : IVec S512x128x1x1 32) (s : Fin 512) (b : Fin 128) :
    Host.gather gather_S512x128x64_S512x128x1x1_S512x128x1_n_2_01_01_2_3_111 x idx (ix3 s b 0)
      = x (ix3 s b ⟨min (idx (ix4 s b 0 0)).toInt.toNat 63, by omega⟩) := by
  unfold Host.gather
  congr 1
  funext a
  refine Fin.ext ?_
  match a with
  | ⟨0, _⟩ => show 0 + s.val + 0 = s.val; omega
  | ⟨1, _⟩ => show 0 + b.val + 0 = b.val; omega
  | ⟨2, _⟩ =>
    show min (idx (GatherDims.siIdx gather_S512x128x64_S512x128x1x1_S512x128x1_n_2_01_01_2_3_111 (ix3 s b 0) ⟨0, by decide⟩)).toInt.toNat 63 + 0 + 0 = _
    have : GatherDims.siIdx gather_S512x128x64_S512x128x1x1_S512x128x1_n_2_01_01_2_3_111 (ix3 s b 0) ⟨0, by decide⟩ = ix4 s b 0 0 := by
      funext c; refine Fin.ext ?_
      match c with
      | ⟨0, _⟩ => rfl
      | ⟨1, _⟩ => rfl
      | ⟨2, _⟩ => rfl
      | ⟨3, _⟩ => rfl
    rw [this]; rfl

/-- The gather of one entry of a vector of scores per sequence. -/
theorem gatherV {α : Type} (x : S64.Idx → α) (idx : IVec S128x1 32) (b : Fin 128) :
    Host.gather gather_S64_S128x1_S128_n_0_n_n_0_1_1 x idx (ix1 b)
      = x (ix1 ⟨min (idx (ix2 b 0)).toInt.toNat 63, by omega⟩) := by
  unfold Host.gather
  congr 1
  funext a
  refine Fin.ext ?_
  match a with
  | ⟨0, _⟩ =>
    show min (idx (GatherDims.siIdx gather_S64_S128x1_S128_n_0_n_n_0_1_1 (ix1 b) ⟨0, by decide⟩)).toInt.toNat 63 + 0 + 0 = _
    have : GatherDims.siIdx gather_S64_S128x1_S128_n_0_n_n_0_1_1 (ix1 b) ⟨0, by decide⟩ = ix2 b 0 := by
      funext c; refine Fin.ext ?_
      match c with
      | ⟨0, _⟩ => rfl
      | ⟨1, _⟩ => rfl
    rw [this]; rfl

/-- The gather of one label per sequence. -/
theorem gatherL {α : Type} (x : S512x128.Idx → α) (idx : IVec S128x2 32) (b : Fin 128) :
    Host.gather gather_S512x128_S128x2_S128_n_01_n_n_01_1_11 x idx (ix1 b)
      = x (ix2 ⟨min (idx (ix2 b 0)).toInt.toNat 511, by omega⟩ ⟨min (idx (ix2 b 1)).toInt.toNat 127, by omega⟩) := by
  unfold Host.gather
  congr 1
  funext a
  refine Fin.ext ?_
  have h0 : GatherDims.siIdx gather_S512x128_S128x2_S128_n_01_n_n_01_1_11 (ix1 b) ⟨0, by decide⟩ = ix2 b 0 := by
    funext c; refine Fin.ext ?_
    match c with
    | ⟨0, _⟩ => rfl
    | ⟨1, _⟩ => rfl
  have h1 : GatherDims.siIdx gather_S512x128_S128x2_S128_n_01_n_n_01_1_11 (ix1 b) ⟨1, by decide⟩ = ix2 b 1 := by
    funext c; refine Fin.ext ?_
    match c with
    | ⟨0, _⟩ => rfl
    | ⟨1, _⟩ => rfl
  match a with
  | ⟨0, _⟩ =>
    show min (idx (GatherDims.siIdx gather_S512x128_S128x2_S128_n_01_n_n_01_1_11 (ix1 b) ⟨0, by decide⟩)).toInt.toNat 511 + 0 + 0 = _
    rw [h0]; rfl
  | ⟨1, _⟩ =>
    show min (idx (GatherDims.siIdx gather_S512x128_S128x2_S128_n_01_n_n_01_1_11 (ix1 b) ⟨1, by decide⟩)).toInt.toNat 127 + 0 + 0 = _
    rw [h1]; rfl

/-- The host's sum over the first two axes of three. -/
theorem sum01 (f : FVec Ideal S512x128x64 .f32) (p : Fin 64) :
    Ideal.hostReduceAdd reducesTo_S512x128x64_S64_d0_1 f 0 (ix1 p) = ∑ s : Fin 512, ∑ b : Fin 128, f (ix3 s b p) := by
  unfold Ideal.hostReduceAdd
  rw [zero_add, Finset.sum_filter, sum_idx3]
  refine Finset.sum_congr rfl fun s _ => Finset.sum_congr rfl fun b _ => ?_
  have h : ∀ k : Fin 64, (reducesTo_S512x128x64_S64_d0_1.drop (ix3 s b k) = ix1 p) = (k = p) := by
    intro k
    have hd : reducesTo_S512x128x64_S64_d0_1.drop (ix3 s b k) = ix1 k := by
      funext a; refine Fin.ext ?_
      match a with
      | ⟨0, _⟩ => rfl
    rw [hd]
    refine propext ⟨fun he => congrFun he 0, fun he => he ▸ rfl⟩
  simp only [h]
  rw [Finset.sum_ite_eq' Finset.univ p]
  simp

/-- A label below 64 is not wrapped. -/
theorem wrap64 : ∀ l : Fin 64, Scalar.select (IntOp.cmpi .slt (BitVec.ofNat 32 l.val) 0#32) (IntOp.addi (BitVec.ofNat 32 l.val) 64#32)
    (BitVec.ofNat 32 l.val) = BitVec.ofNat 32 l.val := by decide
theorem wrap128 : ∀ l : Fin 128, Scalar.select (IntOp.cmpi .slt (BitVec.ofNat 32 l.val) 0#32) (IntOp.addi (BitVec.ofNat 32 l.val) 128#32)
    (BitVec.ofNat 32 l.val) = BitVec.ofNat 32 l.val := by decide
theorem clamp64 : ∀ l : Fin 64, min (BitVec.ofNat 32 l.val).toInt.toNat 63 = l.val := by decide
theorem clamp128 : ∀ l : Fin 128, min (BitVec.ofNat 32 l.val).toInt.toNat 127 = l.val := by decide
theorem clampAt {v : BitVec 32} {l : Fin 64} (h : v = BitVec.ofNat 32 l.val) (hv : min v.toInt.toNat 63 < 64) :
    (⟨min v.toInt.toNat 63, hv⟩ : Fin 64) = l := Fin.ext (by subst h; exact clamp64 l)
theorem inRange : ∀ l : Fin 64, IntOp.andi (IntOp.cmpi .sge (BitVec.ofNat 32 l.val) 0#32) (IntOp.cmpi .sle (BitVec.ofNat 32 l.val) 63#32) = 1#1 := by
  decide
theorem notFirst : ∀ b : Fin 128, IntOp.andi (1#1) (IntOp.cmpi .ne (BitVec.ofNat 32 b.val) 0#32) = if b = 0 then 0#1 else 1#1 := by decide
theorem select_one {α : Type} (a b : α) : Scalar.select 1#1 a b = a := rfl
theorem select_zero {α : Type} (a b : α) : Scalar.select 0#1 a b = b := rfl

/-- Ones summed in 32-bit words. -/
theorem fold_ones {n : ℕ} (s : Finset (Fin n)) : Finset.fold IntOp.addi (0#32) (fun _ => 1#32) s = BitVec.ofNat 32 s.card := by
  induction s using Finset.cons_induction with
  | empty => rfl
  | cons a s ha ih =>
    rw [Finset.fold_cons, ih, Finset.card_cons, Nat.add_comm, BitVec.ofNat_add]; rfl

section
variable {x0 : (⟨S128x512x64, .f32⟩ : BufTy).Contents (Elt Ideal)} {x1 : (⟨S128x512, .i32⟩ : BufTy).Contents (Elt Ideal)}
  {x2 : (⟨S128x512, .i1⟩ : BufTy).Contents (Elt Ideal)} {x3 : (⟨S64x64, .f32⟩ : BufTy).Contents (Elt Ideal)}
  {x4 x5 : (⟨S64, .f32⟩ : BufTy).Contents (Elt Ideal)}
  {e : Fin 128 → Fin 512 → Fin 64 → ℝ} {lab : Fin 128 → Fin 512 → Fin 64} {T : Fin 64 → Fin 64 → ℝ} {en : Fin 64 → ℝ}
  (h0 : ∀ b s k, x0 (ix3 b s k) = (e b s k : EReal)) (h1 : ∀ b s, x1 (ix2 b s) = BitVec.ofNat 32 (lab b s).val)
  (h2 : ∀ b s, x2 (ix2 b s) = 1#1) (h3 : ∀ p k, x3 (ix2 p k) = (T p k : EReal)) (h5 : ∀ k, x5 (ix1 k) = (en k : EReal))

include h0 h3 in
theorem v7_eq (s : Fin 512) (b : Fin 128) (p k : Fin 64) : val_main_v7 (F := Ideal) x0 x3 (ix4 s b p k) = ((T p k + e b s k : ℝ) : EReal) := by
  pointwise [val_main_v7, val_main_v6, val_main_v5, val_main_v4, val_main_v3, val_main_v0]
  rw [h0, h3, EReal.coe_add]

include h0 h3 in
theorem v16_eq (s : Fin 512) (b : Fin 128) (p : Fin 64) : val_main_v16 (F := Ideal) x0 x3 (ix3 s b p) = (ell e T b s p : EReal) := by
  obtain ⟨M, hM⟩ := fold_max_real _ _ (v7_eq h0 h3 s b p)
  have h8 : val_main_v8 (F := Ideal) x0 x3 (ix3 s b p) = (M : EReal) := by
    pointwise [val_main_v8, val_main_cst]
    exact hM
  pointwise [val_main_v16, val_main_v15, val_main_v14, val_main_v13, val_main_v12, val_main_v11, val_main_v10, val_main_v9, val_main_cst_0]
  simp only [v7_eq h0 h3, h8]
  rw [log_sum_exp_sub, ← EReal.coe_add, sub_add_cancel]
  rfl

include h0 h2 h3 in
theorem v26_eq (s : Fin 512) (b : Fin 128) (p : Fin 64) :
    val_main_v26 (F := Ideal) x0 x2 x3 (ix3 s b p) = ((if b = 0 then 0 else ell e T b s p : ℝ) : EReal) := by
  pointwise [val_main_v26, val_main_call0_v1, val_main_v25, val_main_v22, val_main_v21, val_main_v20, val_main_v19, val_main_v18, val_main_v17, val_main_c, val_main_v2, val_main_call0_v2, val_main_call0_v0, val_main_cst_1]
  rw [h2, notFirst, v16_eq h0 h3]
  split
  · exact zeroBits
  · rfl

include h0 h2 h3 in
theorem v28_eq (p : Fin 64) : val_main_v28 (F := Ideal) x0 x2 x3 (ix1 p) = (alpha e T p : EReal) := by
  pointwise [val_main_v28, val_main_v27, val_main_v24, val_main_v23, val_main_cst_2, val_main_v0]
  rw [sum01, h0]
  simp only [v26_eq h0 h2 h3, coe_sum]
  rw [← EReal.coe_add]; rfl

include h0 h2 h3 in
theorem v37_eq : val_main_v37 (F := Ideal) x0 x2 x3 ix0 = (lse (alpha e T) : EReal) := by
  obtain ⟨M, hM⟩ := fold_max_real _ _ (v28_eq h0 h2 h3)
  pointwise [val_main_v37, val_main_v36, val_main_v35, val_main_v34, val_main_v33, val_main_v32, val_main_v31, val_main_v30, val_main_v29, val_main_cst_3, val_main_cst_4]
  rw [hM]
  simp only [v28_eq h0 h2 h3]
  rw [log_sum_exp_sub, ← EReal.coe_add, sub_add_cancel]

include h1 in
theorem v52_eq (s : Fin 511) (b : Fin 128) (c : Fin 2) :
    val_main_v52 (F := Ideal) x1 (ix3 s b c) = if c.val < 1 then BitVec.ofNat 32 (lab b s.castSucc).val else BitVec.ofNat 32 (lab b s.succ).val := by
  pointwise [val_main_v52, val_main_v51, val_main_v50, val_main_v49, val_main_v48, val_main_v47, val_main_c_8, val_main_v46, val_main_v45, val_main_c_7, val_main_v44, val_main_v43, val_main_v42, val_main_c_6, val_main_v41, val_main_v40, val_main_c_5, val_main_v39, val_main_v38, val_main_v1]
  simp only [h1, wrap64]
  have h : (⟨1 + s.val, by omega⟩ : Fin 512) = s.succ := Fin.ext (by simp [Nat.add_comm])
  rw [h]; rfl

include h1 h3 in
theorem v53_eq (s : Fin 511) (b : Fin 128) :
    val_main_v53 (F := Ideal) x1 x3 (ix2 s b) = (T (lab b s.castSucc) (lab b s.succ) : EReal) := by
  unfold val_main_v53
  rw [gatherT, ← h3, clampAt (v52_eq h1 s b 0), clampAt (v52_eq h1 s b 1)]

include h1 in
theorem call1_v5_eq (s : Fin 512) (b : Fin 128) : val_main_call1_v5 (F := Ideal) x1 (ix4 s b 0 0) = BitVec.ofNat 32 (lab b s).val := by
  pointwise [val_main_call1_v5, val_main_call1_v4, val_main_call1_v3, val_main_call1_v2, val_main_call1_v1, val_main_call1_v0, val_main_v54, val_main_v1, val_main_call1_c, val_main_call1_c_0]
  rw [h1, wrap64]

include h0 h1 in
theorem v56_eq (s : Fin 512) (b : Fin 128) : val_main_v56 (F := Ideal) x0 x1 (ix2 s b) = (e b s (lab b s) : EReal) := by
  have h12 : val_main_call1_v12 (F := Ideal) x1 (ix3 s b 0) = 1#1 := by
    pointwise [val_main_call1_v12, val_main_call1_v11, val_main_call1_v10, val_main_call1_v9, val_main_call1_v8, val_main_call1_v7, val_main_call1_v6, val_main_call1_c_3, val_main_call1_c_2, val_main_call1_c_1]
    rw [Finset.univ_unique, Finset.fold_singleton]
    show IntOp.andi (IntOp.andi (IntOp.cmpi .sge (val_main_call1_v5 (F := Ideal) x1 (ix4 s b 0 0)) _) (IntOp.cmpi .sle (val_main_call1_v5 (F := Ideal) x1 (ix4 s b 0 0)) _)) _ = _
    rw [call1_v5_eq h1, inRange]; rfl
  pointwise [val_main_v56, val_main_v55, val_main_call1_v14, val_main_call1_cst]
  rw [h12, select_one]
  unfold val_main_call1_v13
  rw [gatherE, ← h0]
  pointwise [val_main_v0]
  rw [clampAt (call1_v5_eq h1 s b)]

include h0 h1 h2 in
theorem v58_eq : val_main_v58 (F := Ideal) x0 x1 x2 ix0 = (emitScore e lab : EReal) := by
  pointwise [val_main_v58, val_main_cst_10]
  have h : ∀ s b, val_main_v57 (F := Ideal) x0 x1 x2 (ix2 s b) = (e b s (lab b s) : EReal) := by
    intro s b
    pointwise [val_main_v57, val_main_call2_v1, val_main_call2_v0, val_main_cst_9, val_main_v2]
    rw [h2, select_one, v56_eq h0 h1]
  simp only [h, coe_sum]
  rw [Finset.sum_comm]; rfl

include h1 h2 h3 in
theorem v61_eq : val_main_v61 (F := Ideal) x1 x2 x3 ix0 = (transScore lab T : EReal) := by
  pointwise [val_main_v61, val_main_cst_12]
  have h : ∀ s b, val_main_v60 (F := Ideal) x1 x2 x3 (ix2 s b) = (T (lab b s.castSucc) (lab b s.succ) : EReal) := by
    intro s b
    pointwise [val_main_v60, val_main_call3_v1, val_main_call3_v0, val_main_cst_11, val_main_v2, val_main_v59]
    rw [h2, select_one, v53_eq h1 h3]
  simp only [h, coe_sum]
  rw [Finset.sum_comm]; rfl

include h1 in
theorem v75_eq (b : Fin 128) : val_main_v75 (F := Ideal) x1 x4 (ix1 b) = x4 (ix1 (lab b 0)) := by
  have h : val_main_v74 (F := Ideal) x1 (ix2 b 0) = BitVec.ofNat 32 (lab b 0).val := by
    pointwise [val_main_v74, val_main_v73, val_main_v72, val_main_v71, val_main_c_16, val_main_v70, val_main_v69, val_main_c_15, val_main_v68, val_main_v67, val_main_v1]
    rw [h1, wrap64]
  unfold val_main_v75
  rw [gatherV, clampAt h]

include h2 in
theorem v64_eq (b : Fin 128) : val_main_v64 (F := Ideal) x2 (ix1 b) = 512#32 := by
  pointwise [val_main_v64, val_main_v63, val_main_c_13, val_main_v2]
  simp only [h2]
  exact fold_ones _

include h1 h2 in
theorem v92_eq (b : Fin 128) : val_main_v92 (F := Ideal) x1 x2 (ix1 b) = BitVec.ofNat 32 (lab b 511).val := by
  have h : ∀ c : Fin 2, val_main_v91 (F := Ideal) x2 (ix2 b c) = if c.val < 1 then 511#32 else BitVec.ofNat 32 b.val := by
    intro c
    pointwise [val_main_v91, val_main_v90, val_main_v89, val_main_v88, val_main_v87, val_main_v86, val_main_v85, val_main_v84, val_main_v83, val_main_v82, val_main_v81, val_main_v80, val_main_v79, val_main_v78, val_main_c_21, val_main_c_20, val_main_c_19, val_main_c_18, val_main_v66, val_main_v65, val_main_c_14]
    rw [v64_eq h2, wrap128]; rfl
  unfold val_main_v92
  rw [gatherL, ← h1]
  pointwise [val_main_v1]
  have hb : ∀ (v : BitVec 32) (_ : v = BitVec.ofNat 32 b.val) (hv : min v.toInt.toNat 127 < 128), (⟨min v.toInt.toNat 127, hv⟩ : Fin 128) = b :=
    fun v hv _ => Fin.ext (by subst hv; exact clamp128 b)
  have hs : ∀ (v : BitVec 32) (_ : v = 511#32) (hv : min v.toInt.toNat 511 < 512), (⟨min v.toInt.toNat 511, hv⟩ : Fin 512) = 511 :=
    fun v hv _ => Fin.ext (by subst hv; rfl)
  rw [hb _ (h 1), hs _ (h 0)]

include h1 h2 in
theorem v99_eq (b : Fin 128) : val_main_v99 (F := Ideal) x1 x2 x5 (ix1 b) = x5 (ix1 (lab b 511)) := by
  have h : val_main_v98 (F := Ideal) x1 x2 (ix2 b 0) = BitVec.ofNat 32 (lab b 511).val := by
    pointwise [val_main_v98, val_main_v97, val_main_v96, val_main_v95, val_main_c_23, val_main_v94, val_main_v93, val_main_c_22]
    rw [v92_eq h1 h2, wrap64]
  unfold val_main_v99
  rw [gatherV, clampAt h]

include h0 h1 h2 h3 h5 in
/-- The reference's result. -/
theorem v104_value : val_main_v104 (F := Ideal) x0 x1 x2 x3 x4 x5 (ix2 0 0) = answer e lab T en (fun k => x4 (ix1 k)) := by
  pointwise [val_main_v104, val_main_v103, val_main_cst_25, val_main_v102, val_main_v101, val_main_v100, val_main_cst_24, val_main_v77, val_main_v76, val_main_cst_17, val_main_v62]
  rw [v37_eq h0 h2 h3, v58_eq h0 h1 h2, v61_eq h1 h2 h3]
  simp only [v75_eq h1, v99_eq h1 h2, h5, coe_sum]
  rfl

end
end Cert.ReferenceIdeal.Read
end
-- ==== Proof.Steps.lean ====
module

public import proofs.«01_k».proof.Proof.Gen.KernelIdeal.Value
public import Idealize.ShloMosaic.Lib.Pipeline.ReadBack

@[expose] public section

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F]

/-- Column `n` of a 512 by 32 array of labels can be sliced out. -/
theorem sliceCol (n : Fin 32) : S512x32.Slices ![0, n.val] S512x1 := by revert n; decide

/-- The one-hot rows of sequence `n` of a block: row `s`, lane `k` is one where the label at step `s` is `k`. -/
def hot (lab : IVec S512x32 16) (n : Fin 32) : FVec F S512x64 .bf16 :=
  select (cmpi .eq k0_pay13 (broadcastTo S512x64 (extractStridedSlice S512x1 ![0, n.val] lab (sliceCol n)) broadcasts_S512x1_S512x64))
    (broadcast S512x64 (Scalar.ofBits .bf16 0x3F80#16)) (broadcast S512x64 (Scalar.ofBits .bf16 0x0000#16))

/-- Sequence `n` of the first half of a block. -/
def lo (n : Fin 16) : Fin 32 := ⟨n.val, by omega⟩
/-- Sequence `n` of the second half of a block. -/
def hi (n : Fin 16) : Fin 32 := ⟨16 + n.val, by omega⟩

/-- Sixteen sequences laid end to end. -/
def cat16 (f : Fin 16 → FVec F S512x64 .bf16) : FVec F S8192x64 .bf16 :=
  concatenate S8192x64 0 (List.ofFn fun n => ⟨S512x64, f n⟩)
    concatenates_S512x64_S512x64_S512x64_S512x64_S512x64_S512x64_S512x64_S512x64_S512x64_S512x64_S512x64_S512x64_S512x64_S512x64_S512x64_S512x64_S8192x64_d0

/-- The sum of the first rows of sixteen sequences, from zero. -/
def firsts (f : Fin 16 → FVec F S512x64 .bf16) : FVec F S1x64 .bf16 :=
  (addf (addf (addf (addf (addf (addf (addf (addf (addf (addf (addf (addf (addf (addf (addf (addf (broadcast S1x64 (Scalar.ofBits .bf16 0x0000#16)) (extractStridedSlice S1x64 ![0, 0] (f 0) slices_S512x64_o0_0_S1x64)) (extractStridedSlice S1x64 ![0, 0] (f 1) slices_S512x64_o0_0_S1x64)) (extractStridedSlice S1x64 ![0, 0] (f 2) slices_S512x64_o0_0_S1x64)) (extractStridedSlice S1x64 ![0, 0] (f 3) slices_S512x64_o0_0_S1x64)) (extractStridedSlice S1x64 ![0, 0] (f 4) slices_S512x64_o0_0_S1x64)) (extractStridedSlice S1x64 ![0, 0] (f 5) slices_S512x64_o0_0_S1x64)) (extractStridedSlice S1x64 ![0, 0] (f 6) slices_S512x64_o0_0_S1x64)) (extractStridedSlice S1x64 ![0, 0] (f 7) slices_S512x64_o0_0_S1x64)) (extractStridedSlice S1x64 ![0, 0] (f 8) slices_S512x64_o0_0_S1x64)) (extractStridedSlice S1x64 ![0, 0] (f 9) slices_S512x64_o0_0_S1x64)) (extractStridedSlice S1x64 ![0, 0] (f 10) slices_S512x64_o0_0_S1x64)) (extractStridedSlice S1x64 ![0, 0] (f 11) slices_S512x64_o0_0_S1x64)) (extractStridedSlice S1x64 ![0, 0] (f 12) slices_S512x64_o0_0_S1x64)) (extractStridedSlice S1x64 ![0, 0] (f 13) slices_S512x64_o0_0_S1x64)) (extractStridedSlice S1x64 ![0, 0] (f 14) slices_S512x64_o0_0_S1x64)) (extractStridedSlice S1x64 ![0, 0] (f 15) slices_S512x64_o0_0_S1x64))

/-- The sum of the last rows of sixteen sequences, from zero. -/
def lasts (f : Fin 16 → FVec F S512x64 .bf16) : FVec F S1x64 .bf16 :=
  (addf (addf (addf (addf (addf (addf (addf (addf (addf (addf (addf (addf (addf (addf (addf (addf (broadcast S1x64 (Scalar.ofBits .bf16 0x0000#16)) (extractStridedSlice S1x64 ![511, 0] (f 0) slices_S512x64_o511_0_S1x64)) (extractStridedSlice S1x64 ![511, 0] (f 1) slices_S512x64_o511_0_S1x64)) (extractStridedSlice S1x64 ![511, 0] (f 2) slices_S512x64_o511_0_S1x64)) (extractStridedSlice S1x64 ![511, 0] (f 3) slices_S512x64_o511_0_S1x64)) (extractStridedSlice S1x64 ![511, 0] (f 4) slices_S512x64_o511_0_S1x64)) (extractStridedSlice S1x64 ![511, 0] (f 5) slices_S512x64_o511_0_S1x64)) (extractStridedSlice S1x64 ![511, 0] (f 6) slices_S512x64_o511_0_S1x64)) (extractStridedSlice S1x64 ![511, 0] (f 7) slices_S512x64_o511_0_S1x64)) (extractStridedSlice S1x64 ![511, 0] (f 8) slices_S512x64_o511_0_S1x64)) (extractStridedSlice S1x64 ![511, 0] (f 9) slices_S512x64_o511_0_S1x64)) (extractStridedSlice S1x64 ![511, 0] (f 10) slices_S512x64_o511_0_S1x64)) (extractStridedSlice S1x64 ![511, 0] (f 11) slices_S512x64_o511_0_S1x64)) (extractStridedSlice S1x64 ![511, 0] (f 12) slices_S512x64_o511_0_S1x64)) (extractStridedSlice S1x64 ![511, 0] (f 13) slices_S512x64_o511_0_S1x64)) (extractStridedSlice S1x64 ![511, 0] (f 14) slices_S512x64_o511_0_S1x64)) (extractStridedSlice S1x64 ![511, 0] (f 15) slices_S512x64_o511_0_S1x64))

/-- The counts of the first labels of a block. -/
def dSt (x1 : Vec F S32x512 .i32) : FVec F S1x64 .f32 :=
  k0_pay104 (firsts fun n => hot (k0_pay14 x1) (lo n)) (firsts fun n => hot (k0_pay14 x1) (hi n))

/-- The counts of the last labels of a block. -/
def dEt (x1 : Vec F S32x512 .i32) : FVec F S1x64 .f32 :=
  k0_pay104 (lasts fun n => hot (k0_pay14 x1) (lo n)) (lasts fun n => hot (k0_pay14 x1) (hi n))

/-- The counts of the pairs of successive labels of a block. -/
def dC (x1 : Vec F S32x512 .i32) : FVec F S64x64 .f32 :=
  k0_pay106 (k0_pay62 (cat16 fun n => hot (k0_pay14 x1) (lo n)) (cat16 fun n => hot (k0_pay15 x1) (lo n)))
    (cat16 fun n => hot (k0_pay14 x1) (hi n)) (cat16 fun n => hot (k0_pay15 x1) (hi n))

theorem st_eq (x1 : Vec F S32x512 .i32) : (k0_pay104 (k0_pay58 (k0_pay18 x1) (k0_pay20 (k0_pay19 x1) (FloatOps.ofBits .bf16 16256#16)) (k0_pay21 k0_pay13 (k0_pay14 x1)) (k0_pay22 k0_pay13 (k0_pay14 x1)) (k0_pay23 k0_pay13 (k0_pay14 x1)) (k0_pay24 k0_pay13 (k0_pay14 x1)) (k0_pay25 k0_pay13 (k0_pay14 x1)) (k0_pay26 k0_pay13 (k0_pay14 x1)) (k0_pay27 k0_pay13 (k0_pay14 x1)) (k0_pay28 k0_pay13 (k0_pay14 x1)) (k0_pay29 k0_pay13 (k0_pay14 x1)) (k0_pay30 k0_pay13 (k0_pay14 x1)) (k0_pay31 k0_pay13 (k0_pay14 x1)) (k0_pay32 k0_pay13 (k0_pay14 x1)) (k0_pay33 k0_pay13 (k0_pay14 x1)) (k0_pay34 k0_pay13 (k0_pay14 x1))) (k0_pay102 (k0_pay66 k0_pay13 (k0_pay14 x1)) (k0_pay67 k0_pay13 (k0_pay14 x1)) (k0_pay71 (k0_pay68 k0_pay13 (k0_pay14 x1)) k0_pay69 k0_pay70) (k0_pay72 k0_pay13 (k0_pay14 x1)) (k0_pay73 k0_pay13 (k0_pay14 x1)) (k0_pay74 k0_pay13 (k0_pay14 x1)) (k0_pay75 k0_pay13 (k0_pay14 x1)) (k0_pay76 k0_pay13 (k0_pay14 x1)) (k0_pay77 k0_pay13 (k0_pay14 x1)) (k0_pay78 k0_pay13 (k0_pay14 x1)) (k0_pay80 (k0_pay79 k0_pay13 (k0_pay14 x1))) (k0_pay81 k0_pay13 (k0_pay14 x1)) (k0_pay82 k0_pay13 (k0_pay14 x1)) (k0_pay83 k0_pay13 (k0_pay14 x1)) (k0_pay84 k0_pay13 (k0_pay14 x1)) (k0_pay85 k0_pay13 (k0_pay14 x1)))) = dSt x1 := rfl
theorem et_eq (x1 : Vec F S32x512 .i32) : (k0_pay105 (k0_pay61 (k0_pay25 k0_pay13 (k0_pay14 x1)) (k0_pay26 k0_pay13 (k0_pay14 x1)) (k0_pay27 k0_pay13 (k0_pay14 x1)) (k0_pay28 k0_pay13 (k0_pay14 x1)) (k0_pay29 k0_pay13 (k0_pay14 x1)) (k0_pay30 k0_pay13 (k0_pay14 x1)) (k0_pay31 k0_pay13 (k0_pay14 x1)) (k0_pay32 k0_pay13 (k0_pay14 x1)) (k0_pay33 k0_pay13 (k0_pay14 x1)) (k0_pay34 k0_pay13 (k0_pay14 x1)) (k0_pay59 (k0_pay18 x1) (k0_pay20 (k0_pay19 x1) (FloatOps.ofBits .bf16 16256#16)) (k0_pay21 k0_pay13 (k0_pay14 x1)) (k0_pay22 k0_pay13 (k0_pay14 x1)) (k0_pay23 k0_pay13 (k0_pay14 x1))) (k0_pay60 (k0_pay24 k0_pay13 (k0_pay14 x1)))) (k0_pay81 k0_pay13 (k0_pay14 x1)) (k0_pay82 k0_pay13 (k0_pay14 x1)) (k0_pay83 k0_pay13 (k0_pay14 x1)) (k0_pay84 k0_pay13 (k0_pay14 x1)) (k0_pay85 k0_pay13 (k0_pay14 x1)) (k0_pay103 (k0_pay66 k0_pay13 (k0_pay14 x1)) (k0_pay67 k0_pay13 (k0_pay14 x1)) (k0_pay71 (k0_pay68 k0_pay13 (k0_pay14 x1)) k0_pay69 k0_pay70) (k0_pay72 k0_pay13 (k0_pay14 x1)) (k0_pay73 k0_pay13 (k0_pay14 x1)) (k0_pay74 k0_pay13 (k0_pay14 x1)) (k0_pay75 k0_pay13 (k0_pay14 x1)) (k0_pay76 k0_pay13 (k0_pay14 x1)) (k0_pay77 k0_pay13 (k0_pay14 x1)) (k0_pay78 k0_pay13 (k0_pay14 x1)) (k0_pay80 (k0_pay79 k0_pay13 (k0_pay14 x1))))) = dEt x1 := rfl
theorem ohA_eq (x1 : Vec F S32x512 .i32) : ((k0_pay35 k0_pay13 (k0_pay14 x1) (k0_pay18 x1) (k0_pay20 (k0_pay19 x1) (FloatOps.ofBits .bf16 16256#16)) (k0_pay21 k0_pay13 (k0_pay14 x1)) (k0_pay22 k0_pay13 (k0_pay14 x1)) (k0_pay23 k0_pay13 (k0_pay14 x1)) (k0_pay24 k0_pay13 (k0_pay14 x1)) (k0_pay25 k0_pay13 (k0_pay14 x1)) (k0_pay26 k0_pay13 (k0_pay14 x1)) (k0_pay27 k0_pay13 (k0_pay14 x1))) : FVec F S8192x64 .bf16) = cat16 fun n => hot (k0_pay14 x1) (lo n) := rfl
theorem ohB_eq (x1 : Vec F S32x512 .i32) : ((k0_pay86 k0_pay13 (k0_pay14 x1) (k0_pay66 k0_pay13 (k0_pay14 x1)) (k0_pay67 k0_pay13 (k0_pay14 x1)) (k0_pay71 (k0_pay68 k0_pay13 (k0_pay14 x1)) k0_pay69 k0_pay70) (k0_pay72 k0_pay13 (k0_pay14 x1)) (k0_pay73 k0_pay13 (k0_pay14 x1)) (k0_pay74 k0_pay13 (k0_pay14 x1)) (k0_pay75 k0_pay13 (k0_pay14 x1)) (k0_pay76 k0_pay13 (k0_pay14 x1)) (k0_pay77 k0_pay13 (k0_pay14 x1)) (k0_pay78 k0_pay13 (k0_pay14 x1)) (k0_pay79 k0_pay13 (k0_pay14 x1))) : FVec F S8192x64 .bf16) = cat16 fun n => hot (k0_pay14 x1) (hi n) := rfl
theorem ohnA_eq (x1 : Vec F S32x512 .i32) : ((k0_pay56 (k0_pay37 (k0_pay36 k0_pay13 (k0_pay15 x1))) (k0_pay38 k0_pay13 (k0_pay15 x1)) (k0_pay39 k0_pay13 (k0_pay15 x1)) (k0_pay40 k0_pay13 (k0_pay15 x1)) (k0_pay41 k0_pay13 (k0_pay15 x1)) (k0_pay42 k0_pay13 (k0_pay15 x1)) (k0_pay43 k0_pay13 (k0_pay15 x1)) (k0_pay47 (k0_pay44 k0_pay13 (k0_pay15 x1)) k0_pay45 k0_pay46) (k0_pay48 k0_pay13 (k0_pay15 x1)) (k0_pay49 k0_pay13 (k0_pay15 x1)) (k0_pay50 k0_pay13 (k0_pay15 x1)) (k0_pay51 k0_pay13 (k0_pay15 x1)) (k0_pay52 k0_pay13 (k0_pay15 x1)) (k0_pay53 k0_pay13 (k0_pay15 x1)) (k0_pay54 k0_pay13 (k0_pay15 x1)) (k0_pay55 k0_pay13 (k0_pay15 x1))) : FVec F S8192x64 .bf16) = cat16 fun n => hot (k0_pay15 x1) (lo n) := rfl
theorem ohnB_eq (x1 : Vec F S32x512 .i32) : ((k0_pay99 k0_pay13 (k0_pay15 x1) (k0_pay87 k0_pay13 (k0_pay15 x1)) (k0_pay90 (k0_pay88 k0_pay13 (k0_pay15 x1)) (FloatOps.ofBits .bf16 0#16) k0_pay89) (k0_pay91 k0_pay13 (k0_pay15 x1)) (k0_pay92 k0_pay13 (k0_pay15 x1)) (k0_pay93 k0_pay13 (k0_pay15 x1)) (k0_pay94 k0_pay13 (k0_pay15 x1)) (k0_pay95 k0_pay13 (k0_pay15 x1)) (k0_pay96 k0_pay13 (k0_pay15 x1)) (k0_pay97 k0_pay13 (k0_pay15 x1)) (k0_pay98 (k0_pay15 x1))) : FVec F S8192x64 .bf16) = cat16 fun n => hot (k0_pay15 x1) (hi n) := rfl
theorem c_eq (x1 : Vec F S32x512 .i32) : k0_pay106 (k0_pay62 (cat16 fun n => hot (k0_pay14 x1) (lo n)) (cat16 fun n => hot (k0_pay15 x1) (lo n)))
    (cat16 fun n => hot (k0_pay14 x1) (hi n)) (cat16 fun n => hot (k0_pay15 x1) (hi n)) = dC (F := F) x1 := rfl

theorem hz2 : (![0, 0] : Fin 2 → Nat) = fun _ => 0 := funext fun a => by fin_cases a <;> rfl
theorem hz2' : ∀ a, (![0, 0] : Fin 2 → Nat) a = 0 := fun a => by fin_cases a <;> rfl

/-- A row of the accumulator, as the rectangle the body loads it through. -/
abbrev R0 : Rect S8x64 := Rect.unit ![0, 0] S1x64.size inb_S8x64_S1x64_0_0
abbrev R1 : Rect S8x64 := Rect.unit ![1, 0] S1x64.size inb_S8x64_S1x64_1_0
abbrev R2 : Rect S8x64 := Rect.unit ![2, 0] S1x64.size inb_S8x64_S1x64_2_0
abbrev R3 : Rect S8x64 := Rect.unit ![3, 0] S1x64.size inb_S8x64_S1x64_3_0
abbrev R4 : Rect S8x64 := Rect.unit ![4, 0] S1x64.size inb_S8x64_S1x64_4_0

/-- The first and the second sixteen sequences of a block. -/
abbrev eLo (x0 : Vec F S32x512x64 .f32) : Vec F S16x512x64 .f32 :=
  View.ld x0 (Rect.unit ![0, 0, 0] S16x512x64.size inb_S32x512x64_S16x512x64_0_0_0)
abbrev eHi (x0 : Vec F S32x512x64 .f32) : Vec F S16x512x64 .f32 :=
  View.ld x0 (Rect.unit ![16, 0, 0] S16x512x64.size inb_S32x512x64_S16x512x64_16_0_0)
/-- The first step of a block's first sequence. -/
abbrev eFirst (x0 : Vec F S32x512x64 .f32) : Vec F S1x1x64 .f32 :=
  View.ld x0 (Rect.unit ![0, 0, 0] S1x1x64.size inb_S32x512x64_S1x1x64_0_0_0)

/-- What a point makes of the row of summed logarithms. -/
abbrev nLog (i : grid0.Coords) (x0 : Vec F S32x512x64 .f32) (x2 : Vec F S64x64 .f32) (old : Vec F S1x64 .f32) : FVec F S1x64 .f32 :=
  k0_pay111 (k0_pay17 i x2 (eLo x0)) (k0_pay65 (k0_pay12 x2) (eHi x0)) old
/-- What a point makes of the row of emission scores. -/
abbrev nEm (x0 : Vec F S32x512x64 .f32) (x1 : Vec F S32x512 .i32) (old : Vec F S1x64 .f32) : FVec F S1x64 .f32 :=
  k0_pay112 (k0_pay63 (k0_pay57 (k0_pay16 (eLo x0)) (cat16 fun n => hot (k0_pay14 x1) (lo n))))
    (k0_pay101 (k0_pay100 (k0_pay64 (eHi x0)) (cat16 fun n => hot (k0_pay14 x1) (hi n)))) old

theorem ld_hit {sig : RefSig} {κ : Kind} {sp : Space} {s : Shape} {e : EltTy} (v : View sig κ sp s e) (f : v.ty.Contents (Elt F)) (r : Rect s)
    (w : r.shape.Idx → Elt F e) (L : List (View.Piece (Elt F) s e)) :
    View.ld (v.read (Elt F) (v.writes (Elt F) f (⟨r, w⟩ :: L))) r = w :=
  funext fun x => View.read_writes_cons_emb v f r w L x

theorem ld_skip {sig : RefSig} {κ : Kind} {sp : Space} {s : Shape} {e : EltTy} (v : View sig κ sp s e) (f : v.ty.Contents (Elt F)) (r r' : Rect s)
    (w : r'.shape.Idx → Elt F e) (L : List (View.Piece (Elt F) s e)) (h : LoadRect.disj r' r.toLoadRect = true) :
    View.ld (v.read (Elt F) (v.writes (Elt F) f (⟨r', w⟩ :: L))) r = View.ld (v.read (Elt F) (v.writes (Elt F) f L)) r :=
  funext fun x => View.read_writes_cons_miss v f ⟨r', w⟩ L _ (LoadRect.idx_not_mem_of_disj h x)

theorem ld_nil {sig : RefSig} {κ : Kind} {sp : Space} {s : Shape} {e : EltTy} (v : View sig κ sp s e) (f : v.ty.Contents (Elt F)) :
    v.writes (Elt F) f [] = f := rfl

theorem sB0 (c : Dev nD) (i : grid0.Coords) (arg1 : Memref sig .tc .vmem S32x512x64 .f32) (harg1 : arg1.IsWhole) (arg2 : Memref sig .tc .vmem S32x512 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S8x64 .f32) (harg7 : arg7.IsWhole) (arg8 : Memref sig .tc .vmem S64x64 .f32) (harg8 : arg8.IsWhole) (hc0 : ¬cond0_0 i) (hc1 : ¬cond0_1 i)
    (x0 : Vec F S32x512x64 .f32) (x1 : Vec F S32x512 .i32) (x2 : Vec F S64x64 .f32) (x3 : Vec F S1x64 .f32) (x4 : Vec F S1x64 .f32) (xs0 : Vec F S8x64 .f32) (xs1 : Vec F S64x64 .f32) :
    View.ld (sout0_B_0 c i arg1 harg1 arg2 harg2 arg3 harg3 arg4 harg4 arg5 harg5 arg6 harg6 arg7 harg7 arg8 harg8 hc0 hc1 x0 x1 x2 x3 x4 xs0 xs1) R0 = nLog i x0 x2 (View.ld xs0 R0)
    ∧ View.ld (sout0_B_0 c i arg1 harg1 arg2 harg2 arg3 harg3 arg4 harg4 arg5 harg5 arg6 harg6 arg7 harg7 arg8 harg8 hc0 hc1 x0 x1 x2 x3 x4 xs0 xs1) R1 = nEm x0 x1 (View.ld xs0 R1)
    ∧ View.ld (sout0_B_0 c i arg1 harg1 arg2 harg2 arg3 harg3 arg4 harg4 arg5 harg5 arg6 harg6 arg7 harg7 arg8 harg8 hc0 hc1 x0 x1 x2 x3 x4 xs0 xs1) R2 = View.ld xs0 R2
    ∧ View.ld (sout0_B_0 c i arg1 harg1 arg2 harg2 arg3 harg3 arg4 harg4 arg5 harg5 arg6 harg6 arg7 harg7 arg8 harg8 hc0 hc1 x0 x1 x2 x3 x4 xs0 xs1) R3 = k0_pay1 (dSt x1) (View.ld xs0 R3)
    ∧ View.ld (sout0_B_0 c i arg1 harg1 arg2 harg2 arg3 harg3 arg4 harg4 arg5 harg5 arg6 harg6 arg7 harg7 arg8 harg8 hc0 hc1 x0 x1 x2 x3 x4 xs0 xs1) R4 = k0_pay2 (dEt x1) (View.ld xs0 R4) := by
  unfold sout0_B_0 kernelRun0_B
  dsimp only
  sl_unfold_words
  simp only [View.readAt_eq_ld, harg1.read_unread, harg2.read_unread, harg3.read_unread, harg4.read_unread, harg5.read_unread, harg7.read_unread, harg8.read_unread,
    View.ld_unit_zero (S := S32x512) hz2, View.ld_unit_zero (S := S64x64) hz2, st_eq, et_eq, ohnA_eq, ohnB_eq, ohA_eq, ohB_eq, c_eq]
  refine ⟨?_, ?_, ?_, ?_, ?_⟩
  · rw [ld_skip _ _ _ _ _ _ (by decide)]; rw [ld_skip _ _ _ _ _ _ (by decide)]; rw [ld_skip _ _ _ _ _ _ (by decide)]; rw [ld_hit]
  · rw [ld_skip _ _ _ _ _ _ (by decide)]; rw [ld_skip _ _ _ _ _ _ (by decide)]; rw [ld_hit]
  · rw [ld_skip _ _ _ _ _ _ (by decide)]; rw [ld_skip _ _ _ _ _ _ (by decide)]; rw [ld_skip _ _ _ _ _ _ (by decide)]; rw [ld_skip _ _ _ _ _ _ (by decide)]; rw [ld_nil, harg7.read_unread]
  · rw [ld_skip _ _ _ _ _ _ (by decide)]; rw [ld_hit]
  · rw [ld_hit]

theorem sB1 (c : Dev nD) (i : grid0.Coords) (arg1 : Memref sig .tc .vmem S32x512x64 .f32) (harg1 : arg1.IsWhole) (arg2 : Memref sig .tc .vmem S32x512 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S8x64 .f32) (harg7 : arg7.IsWhole) (arg8 : Memref sig .tc .vmem S64x64 .f32) (harg8 : arg8.IsWhole) (hc0 : ¬cond0_0 i) (hc1 : ¬cond0_1 i)
    (x0 : Vec F S32x512x64 .f32) (x1 : Vec F S32x512 .i32) (x2 : Vec F S64x64 .f32) (x3 : Vec F S1x64 .f32) (x4 : Vec F S1x64 .f32) (xs0 : Vec F S8x64 .f32) (xs1 : Vec F S64x64 .f32) :
    sout0_B_1 c i arg1 harg1 arg2 harg2 arg3 harg3 arg4 harg4 arg5 harg5 arg6 harg6 arg7 harg7 arg8 harg8 hc0 hc1 x0 x1 x2 x3 x4 xs0 xs1 = k0_pay3 (dC x1) xs1 := by
  unfold sout0_B_1 kernelRun0_B
  dsimp only
  sl_unfold_words
  simp only [View.readAt_eq_ld, harg1.read_unread, harg2.read_unread, harg3.read_unread, harg4.read_unread, harg5.read_unread, harg7.read_unread, harg8.read_unread,
    View.ld_unit_zero (S := S32x512) hz2, View.ld_unit_zero (S := S64x64) hz2, st_eq, et_eq, ohnA_eq, ohnB_eq, ohA_eq, ohB_eq, c_eq]
  rw [View.read_writes_junk_eq_canon, View.canon_unit_zero (S := S64x64) hz2]

theorem sA1 (c : Dev nD) (i : grid0.Coords) (arg1 : Memref sig .tc .vmem S32x512x64 .f32) (harg1 : arg1.IsWhole) (arg2 : Memref sig .tc .vmem S32x512 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S8x64 .f32) (harg7 : arg7.IsWhole) (arg8 : Memref sig .tc .vmem S64x64 .f32) (harg8 : arg8.IsWhole) (hc0 : cond0_0 i) (hc1 : ¬cond0_1 i)
    (x0 : Vec F S32x512x64 .f32) (x1 : Vec F S32x512 .i32) (x2 : Vec F S64x64 .f32) (x3 : Vec F S1x64 .f32) (x4 : Vec F S1x64 .f32) :
    sout0_A_1 c i arg1 harg1 arg2 harg2 arg3 harg3 arg4 harg4 arg5 harg5 arg6 harg6 arg7 harg7 arg8 harg8 hc0 hc1 x0 x1 x2 x3 x4 = k0_pay3 (dC x1) k0_pay109 := by
  unfold sout0_A_1 kernelRun0_A
  dsimp only
  sl_unfold_words
  simp only [View.readAt_eq_ld, harg1.read_unread, harg2.read_unread, harg3.read_unread, harg4.read_unread, harg5.read_unread, harg7.read_unread, harg8.read_unread,
    View.ld_unit_zero (S := S32x512) hz2, View.ld_unit_zero (S := S64x64) hz2, st_eq, et_eq, ohnA_eq, ohnB_eq, ohA_eq, ohB_eq, c_eq]
  rw [View.read_writes_junk_eq_canon, View.canon_cons_unit_zero (S := S64x64) hz2, View.readCov_unit_zero (S := S64x64) _ hz2]

theorem sA0 (c : Dev nD) (i : grid0.Coords) (arg1 : Memref sig .tc .vmem S32x512x64 .f32) (harg1 : arg1.IsWhole) (arg2 : Memref sig .tc .vmem S32x512 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S8x64 .f32) (harg7 : arg7.IsWhole) (arg8 : Memref sig .tc .vmem S64x64 .f32) (harg8 : arg8.IsWhole) (hc0 : cond0_0 i) (hc1 : ¬cond0_1 i)
    (x0 : Vec F S32x512x64 .f32) (x1 : Vec F S32x512 .i32) (x2 : Vec F S64x64 .f32) (x3 : Vec F S1x64 .f32) (x4 : Vec F S1x64 .f32) :
    View.ld (sout0_A_0 c i arg1 harg1 arg2 harg2 arg3 harg3 arg4 harg4 arg5 harg5 arg6 harg6 arg7 harg7 arg8 harg8 hc0 hc1 x0 x1 x2 x3 x4 ) R0 = nLog i x0 x2 (View.ld k0_pay107 R0)
    ∧ View.ld (sout0_A_0 c i arg1 harg1 arg2 harg2 arg3 harg3 arg4 harg4 arg5 harg5 arg6 harg6 arg7 harg7 arg8 harg8 hc0 hc1 x0 x1 x2 x3 x4 ) R1 = nEm x0 x1 (View.ld k0_pay107 R1)
    ∧ View.ld (sout0_A_0 c i arg1 harg1 arg2 harg2 arg3 harg3 arg4 harg4 arg5 harg5 arg6 harg6 arg7 harg7 arg8 harg8 hc0 hc1 x0 x1 x2 x3 x4 ) R2 = k0_pay108 (eFirst x0)
    ∧ View.ld (sout0_A_0 c i arg1 harg1 arg2 harg2 arg3 harg3 arg4 harg4 arg5 harg5 arg6 harg6 arg7 harg7 arg8 harg8 hc0 hc1 x0 x1 x2 x3 x4 ) R3 = k0_pay1 (dSt x1) (View.ld k0_pay107 R3)
    ∧ View.ld (sout0_A_0 c i arg1 harg1 arg2 harg2 arg3 harg3 arg4 harg4 arg5 harg5 arg6 harg6 arg7 harg7 arg8 harg8 hc0 hc1 x0 x1 x2 x3 x4 ) R4 = k0_pay2 (dEt x1) (View.ld k0_pay107 R4) := by
  unfold sout0_A_0 kernelRun0_A
  dsimp only
  sl_unfold_words
  simp only [View.readAt_eq_ld, harg1.read_unread, harg2.read_unread, harg3.read_unread, harg4.read_unread, harg5.read_unread, harg7.read_unread, harg8.read_unread,
    View.ld_unit_zero (S := S32x512) hz2, View.ld_unit_zero (S := S64x64) hz2, st_eq, et_eq, ohnA_eq, ohnB_eq, ohA_eq, ohB_eq, c_eq]
  simp (disch := decide) only [View.readCov_skip, View.readCov_fill (s := S8x64) _ _ _ _ _ hz2']
  refine ⟨?_, ?_, ?_, ?_, ?_⟩
  · rw [ld_skip _ _ _ _ _ _ (by decide)]; rw [ld_skip _ _ _ _ _ _ (by decide)]; rw [ld_skip _ _ _ _ _ _ (by decide)]; rw [ld_hit]
  · rw [ld_skip _ _ _ _ _ _ (by decide)]; rw [ld_skip _ _ _ _ _ _ (by decide)]; rw [ld_hit]
  · rw [ld_skip _ _ _ _ _ _ (by decide)]; rw [ld_skip _ _ _ _ _ _ (by decide)]; rw [ld_skip _ _ _ _ _ _ (by decide)]; rw [ld_skip _ _ _ _ _ _ (by decide)]; rw [ld_hit]
  · rw [ld_skip _ _ _ _ _ _ (by decide)]; rw [ld_hit]
  · rw [ld_hit]

theorem oC5 (c : Dev nD) (i : grid0.Coords) (arg1 : Memref sig .tc .vmem S32x512x64 .f32) (harg1 : arg1.IsWhole) (arg2 : Memref sig .tc .vmem S32x512 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S8x64 .f32) (harg7 : arg7.IsWhole) (arg8 : Memref sig .tc .vmem S64x64 .f32) (harg8 : arg8.IsWhole) (hc0 : ¬cond0_0 i) (hc1 : cond0_1 i)
    (x0 : Vec F S32x512x64 .f32) (x1 : Vec F S32x512 .i32) (x2 : Vec F S64x64 .f32) (x3 : Vec F S1x64 .f32) (x4 : Vec F S1x64 .f32) (xs0 : Vec F S8x64 .f32) (xs1 : Vec F S64x64 .f32) :
    out0_C_5 c i arg1 harg1 arg2 harg2 arg3 harg3 arg4 harg4 arg5 harg5 arg6 harg6 arg7 harg7 arg8 harg8 hc0 hc1 x0 x1 x2 x3 x4 xs0 xs1 = k0_pay4 (k0_pay5 (k0_pay11 x2) (View.ld xs0 R2) (nLog i x0 x2 (View.ld xs0 R0)))
      (k0_pay6 (nEm x0 x1 (View.ld xs0 R1))) (k0_pay7 x2 (k0_pay3 (dC x1) xs1))
      (k0_pay8 (k0_pay1 (dSt x1) (View.ld xs0 R3)) x3) (k0_pay9 (k0_pay2 (dEt x1) (View.ld xs0 R4)) x4) := by
  unfold out0_C_5 kernelRun0_C
  dsimp only
  sl_unfold_words
  simp only [View.readAt_eq_ld, harg1.read_unread, harg2.read_unread, harg3.read_unread, harg4.read_unread, harg5.read_unread, harg7.read_unread, harg8.read_unread,
    View.ld_unit_zero (S := S32x512) hz2, View.ld_unit_zero (S := S64x64) hz2, st_eq, et_eq, ohnA_eq, ohnB_eq, ohA_eq, ohB_eq, c_eq]
  simp (disch := decide) only [View.readCov_skip, View.readCov_cons_toLoadRect, View.readCov_unit_zero (S := S64x64) _ hz2, View.ld_unit_zero (S := S1x64) hz2]
  rw [View.read_writes_junk_eq_canon, View.canon_unit_zero (S := S1x1) hz2]

end Cert.KernelIdeal.Steps
end
-- ==== Proof.KernelIdx.lean ====
module

public import proofs.«01_k».proof.Proof.Steps
public import proofs.«01_k».proof.Proof.Spec
public import Idealize.ShloMosaic.Lib.Pipeline.Value

/-! What one grid point of the kernel adds to its accumulators, entry by entry, over real scores and labels below 64. -/

@[expose] public section
set_option maxRecDepth 16384
noncomputable section
namespace Cert.KernelIdeal.Steps
open Cert.KernelIdeal Cert.KernelIdeal.Gen Idealize.ShloMosaic Idealize.SL.Sem Cert.Crf

/-- Sixteen sequences laid end to end, read at a row. -/
theorem cat16_apply (f : Fin 16 → FVec Ideal S512x64 .bf16) (q : Fin 8192) (p : Fin 64) :
    cat16 f (ix2 q p) = f ⟨q.val / 512, by omega⟩ (ix2 ⟨q.val % 512, by omega⟩ p) := by
  unfold cat16
  refine concatenate_ofFn_apply (t := S8192x64) (s₁ := S512x64) (0 : Fin 2) f _ rfl 512 rfl (ix2 q p) ⟨q.val / 512, by omega⟩ rfl (ix2 ⟨q.val % 512, by omega⟩ p) rfl ?_
  intro b hb
  match b with
  | ⟨0, _⟩ => exact absurd rfl hb
  | ⟨1, _⟩ => rfl

theorem firsts_apply (f : Fin 16 → FVec Ideal S512x64 .bf16) (p : Fin 64) : firsts f (ix2 0 p) = ∑ n, f n (ix2 0 p) := by
  pointwise [firsts]
  simp only [Fin.sum_univ_castSucc, Fin.sum_univ_zero, zero_add]
  rfl

theorem lasts_apply (f : Fin 16 → FVec Ideal S512x64 .bf16) (p : Fin 64) : lasts f (ix2 0 p) = ∑ n, f n (ix2 511 p) := by
  pointwise [lasts]
  simp only [Fin.sum_univ_castSucc, Fin.sum_univ_zero, zero_add]
  rfl

theorem word16 (n : ℕ) (h : n < 65) : (BitVec.setWidth 16 (BitVec.ofNat 32 n)).toNat = n := by
  simp only [BitVec.toNat_setWidth, BitVec.toNat_ofNat]; omega

theorem hot_word (p : Fin 64) (n : ℕ) (h : n < 65) (w : BitVec 16) (hw : w.toNat = n) :
    Scalar.select (IntOp.cmpi .eq (BitVec.setWidth 16 (BitVec.ofNat 32 p.val)) w) (1 : EReal) 0 = ((if n = p.val then 1 else 0 : ℝ) : EReal) := by
  have hp := word16 p.val (by omega)
  split
  · next he =>
    have : BitVec.setWidth 16 (BitVec.ofNat 32 p.val) = w := BitVec.eq_of_toNat_eq (by rw [hp, hw, he])
    rw [this]; simp [Scalar.select, IntOp.cmpi]
  · next he =>
    have : BitVec.setWidth 16 (BitVec.ofNat 32 p.val) ≠ w := fun hh => he (by rw [← hw, ← hh, hp])
    have hb : IntOp.cmpi .eq (BitVec.setWidth 16 (BitVec.ofNat 32 p.val)) w = 0#1 := by
      show BitVec.ofBool (_ == w) = 0#1
      rw [beq_false_of_ne this]; rfl
    rw [hb]; rfl

section
variable {x0 : Vec Ideal S32x512x64 .f32} {x1 : Vec Ideal S32x512 .i32} {x2 : Vec Ideal S64x64 .f32}
  {eb : Fin 32 → Fin 512 → Fin 64 → ℝ} {lb : Fin 32 → Fin 512 → Fin 64} {T : Fin 64 → Fin 64 → ℝ}
  (g0 : ∀ b s k, x0 (ix3 b s k) = (eb b s k : EReal)) (g1 : ∀ b s, x1 (ix2 b s) = BitVec.ofNat 32 (lb b s).val)
  (g2 : ∀ p k, x2 (ix2 p k) = (T p k : EReal))

include g1 in
theorem hot_eq (n : Fin 32) (s : Fin 512) (p : Fin 64) : hot (F := Ideal) (k0_pay14 (F := Ideal) x1) n (ix2 s p) = (one (lb n s) p : EReal) := by
  pointwise [hot, k0_pay13, k0_pay14]
  rw [g1, hot_word p (lb n s).val (by omega) _ (word16 _ (by omega))]
  unfold one
  simp only [Fin.ext_iff]

include g1 in
theorem hotNext_eq (n : Fin 32) (s : Fin 512) (p : Fin 64) : hot (F := Ideal) (k0_pay15 (F := Ideal) x1) n (ix2 s p) = (next (lb n) s p : EReal) := by
  pointwise [hot, k0_pay13, k0_pay15, k0_pay14]
  unfold next
  split
  · rw [g1, hot_word p (lb n _).val (by omega) _ (word16 _ (by omega))]
    unfold one
    simp only [Fin.ext_iff]
  · rw [hot_word p 64 (by omega) _ rfl, if_neg (by omega)]

include g1 in
theorem st_add (old : Vec Ideal S1x64 .f32) (p : Fin 64) :
    k0_pay1 (F := Ideal) (dSt x1) old (ix2 0 p) = old (ix2 0 p) + ((∑ b, one (lb b 0) p : ℝ) : EReal) := by
  pointwise [k0_pay1, dSt, k0_pay104]
  rw [firsts_apply, firsts_apply]
  simp only [hot_eq g1, coe_sum]
  rw [← EReal.coe_add, sum_halves]; rfl

include g1 in
theorem et_add (old : Vec Ideal S1x64 .f32) (p : Fin 64) :
    k0_pay2 (F := Ideal) (dEt x1) old (ix2 0 p) = old (ix2 0 p) + ((∑ b, one (lb b 511) p : ℝ) : EReal) := by
  pointwise [k0_pay2, dEt, k0_pay104]
  rw [lasts_apply, lasts_apply]
  simp only [hot_eq g1, coe_sum]
  rw [← EReal.coe_add, sum_halves]; rfl

include g1 in
theorem c_add (old : Vec Ideal S64x64 .f32) (j k : Fin 64) :
    k0_pay3 (F := Ideal) (dC x1) old (ix2 j k) = old (ix2 j k) + ((∑ b, ∑ s, one (lb b s) j * next (lb b) s k : ℝ) : EReal) := by
  pointwise [k0_pay3, dC, k0_pay106, k0_pay62]
  simp only [cat16_apply, hot_eq g1, hotNext_eq g1, ← EReal.coe_mul, coe_sum]
  rw [sum8192 fun b s => one (lb (lo b) s) j * next (lb (lo b)) s k, sum8192 fun b s => one (lb (hi b) s) j * next (lb (hi b)) s k,
    ← EReal.coe_add, sum_halves]; rfl

include g0 g1 in
theorem em_add (old : Vec Ideal S1x64 .f32) (p : Fin 64) :
    nEm (F := Ideal) x0 x1 old (ix2 0 p) = old (ix2 0 p) + ((∑ b, ∑ s, eb b s p * one (lb b s) p : ℝ) : EReal) := by
  pointwise [nEm, k0_pay112, k0_pay63, k0_pay57, k0_pay16, k0_pay101, k0_pay100, k0_pay64, eLo, eHi]
  simp only [cat16_apply, hot_eq g1, g0, ← EReal.coe_mul, coe_sum]
  have h1 := sum8192 fun b s => eb (lo b) s p * one (lb (lo b) s) p
  have h2 := sum8192 fun b s => eb (hi b) s p * one (lb (hi b) s) p
  rw [sum_halves, EReal.coe_add]
  refine congrArg (old (ix2 0 p) + ·) (congrArg₂ (· + ·) (congrArg _ h1) (congrArg _ (Eq.trans ?_ h2)))
  exact Finset.sum_congr rfl fun r _ => rfl

/-- The greatest transition score into label `p`. -/
def top (x2 : Vec Ideal S64x64 .f32) (p : Fin 64) : ℝ := (k0_pay11 (F := Ideal) x2 (ix2 0 p)).toReal

include g2 in
theorem top_eq (p : Fin 64) : k0_pay11 (F := Ideal) x2 (ix2 0 p) = (top x2 p : EReal) := by
  have h : ∃ M : ℝ, k0_pay11 (F := Ideal) x2 (ix2 0 p) = (M : EReal) := by
    pointwise [k0_pay11, k0_pay10]
    exact fold_max_real _ _ (g2 p)
  obtain ⟨M, hM⟩ := h
  unfold top; rw [hM]; rfl

/-- One row's logarithm: the log of the sum of the exponentials, the greatest transition score taken out. -/
def rowLog (T : Fin 64 → Fin 64 → ℝ) (t : Fin 64 → ℝ) (row : Fin 64 → ℝ) (p : Fin 64) : ℝ := lse (fun k => T p k + row k) - t p

include g0 g2 in
theorem row_eq (b : Fin 32) (s : Fin 512) (p : Fin 64) :
    Ideal.log (∑ k, Ideal.exp (x0 (ix3 b s k)) * k0_pay12 (F := Ideal) x2 (ix2 k p)) = (rowLog T (top x2) (eb b s) p : EReal) := by
  have h : ∀ k, k0_pay12 (F := Ideal) x2 (ix2 k p) = Ideal.exp ((T p k : EReal) - (top x2 p : EReal)) := by
    intro k
    have ht := top_eq g2 p
    pointwise [k0_pay12, k0_pay10]
    rw [ht, g2]
  simp only [h, g0]
  exact log_sum_exp_mul _ _ _

include g0 g2 in
theorem log_add (i : grid0.Coords) (z : BitVec 1) (hz : Scalar.cmpi .eq (BitVec.ofNat 32 (i 0).val) 0#32 = z) (old : Vec Ideal S1x64 .f32) (p : Fin 64) :
    nLog (F := Ideal) i x0 x2 old (ix2 0 p)
      = old (ix2 0 p) + ((∑ b, ∑ s, rowLog T (top x2) (eb b s) p - (if z = 1#1 then ∑ s, rowLog T (top x2) (eb 0 s) p else 0) : ℝ) : EReal) := by
  pointwise [nLog, k0_pay111, k0_pay17, k0_pay16, k0_pay65, k0_pay64, eLo, eHi]
  rw [hz]
  have h1 := sum8192 fun b s => rowLog T (top x2) (eb (lo b) s) p
  have h2 := sum8192 fun b s => rowLog T (top x2) (eb (hi b) s) p
  have h3 : ∀ a : ℝ, Scalar.select z (a : EReal) 0 = ((if z = 1#1 then a else 0 : ℝ) : EReal) := by
    intro a; unfold Scalar.select; split <;> simp_all
  have a1 : (∑ r : Fin 8192, Ideal.log (∑ k : Fin 64, Ideal.exp (x0 (ix3 ⟨r.val / 512, by omega⟩ ⟨r.val % 512, by omega⟩ k)) * k0_pay12 (F := Ideal) x2 (ix2 k p)))
      = ((∑ b, ∑ s, rowLog T (top x2) (eb (lo b) s) p : ℝ) : EReal) :=
    (Finset.sum_congr rfl fun r _ => row_eq g0 g2 _ _ p).trans ((coe_sum _ _).trans (congrArg _ h1))
  have a2 : (∑ r : Fin 8192, Ideal.log (∑ k : Fin 64, Ideal.exp (x0 (ix3 ⟨16 + r.val / 512, by omega⟩ ⟨r.val % 512, by omega⟩ k)) * k0_pay12 (F := Ideal) x2 (ix2 k p)))
      = ((∑ b, ∑ s, rowLog T (top x2) (eb (hi b) s) p : ℝ) : EReal) :=
    (Finset.sum_congr rfl fun r _ => row_eq g0 g2 _ _ p).trans ((coe_sum _ _).trans (congrArg _ h2))
  have a3 : (∑ s : Fin 512, Ideal.log (∑ k : Fin 64, Ideal.exp (x0 (ix3 ⟨s.val / 512, by omega⟩ ⟨s.val % 512, by omega⟩ k)) * k0_pay12 (F := Ideal) x2 (ix2 k p)))
      = ((∑ s, rowLog T (top x2) (eb 0 s) p : ℝ) : EReal) := by
    refine (Finset.sum_congr rfl fun s _ => ?_).trans (coe_sum _ _)
    rw [← row_eq g0 g2 0 s p]
    have hb : (⟨s.val / 512, by omega⟩ : Fin 32) = 0 := Fin.ext (by show s.val / 512 = 0; omega)
    have hs : (⟨s.val % 512, by omega⟩ : Fin 512) = s := Fin.ext (by show s.val % 512 = s.val; omega)
    rw [hb, hs]
  refine congrArg (old (ix2 0 p) + ·) ?_
  refine (congrArg₂ (· + ·) (congrArg₂ (· - ·) a1 ((congrArg (Scalar.select z · 0) a3).trans (h3 _))) a2).trans ?_
  rw [← EReal.coe_sub, ← EReal.coe_add, sum_halves fun b => ∑ s, rowLog T (top x2) (eb b s) p]
  refine congrArg _ ?_
  show (∑ b, ∑ s, rowLog T (top x2) (eb (lo b) s) p) - _ + (∑ b, ∑ s, rowLog T (top x2) (eb (hi b) s) p)
    = (∑ b, ∑ s, rowLog T (top x2) (eb (lo b) s) p) + (∑ b, ∑ s, rowLog T (top x2) (eb (hi b) s) p) - _
  ring

end
end Cert.KernelIdeal.Steps
end
-- ==== Proof.KernelRows.lean ====
module

public import proofs.«01_k».proof.Proof.KernelIdx

/-! The accumulators as real rows: what a point makes of them, and what the last point writes from them. -/

@[expose] public section
set_option maxRecDepth 16384
noncomputable section
namespace Cert.KernelIdeal.Steps
open Cert.KernelIdeal Cert.KernelIdeal.Gen Idealize.ShloMosaic Idealize.SL.Sem Cert.Crf

/-- The accumulators hold these real numbers: summed logarithms, emission scores, first scores, counts of first and of last labels,
    and counts of pairs of labels. -/
structure Rows (xs0 : Vec Ideal S8x64 .f32) (xs1 : Vec Ideal S64x64 .f32) (L E F A Z : Fin 64 → ℝ) (C : Fin 64 → Fin 64 → ℝ) : Prop where
  log : ∀ p, View.ld xs0 R0 (ix2 (0 : Fin 1) p) = (L p : EReal)
  em : ∀ p, View.ld xs0 R1 (ix2 (0 : Fin 1) p) = (E p : EReal)
  first : ∀ p, View.ld xs0 R2 (ix2 (0 : Fin 1) p) = (F p : EReal)
  st : ∀ p, View.ld xs0 R3 (ix2 (0 : Fin 1) p) = (A p : EReal)
  et : ∀ p, View.ld xs0 R4 (ix2 (0 : Fin 1) p) = (Z p : EReal)
  pairs : ∀ j k, xs1 (ix2 j k) = (C j k : EReal)

/-- The accumulators' first contents. -/
abbrev z0 : Vec Ideal S8x64 .f32 := k0_pay107 (F := Ideal)
abbrev zC : Vec Ideal S64x64 .f32 := k0_pay109 (F := Ideal)

theorem zero0 (p : Fin 64) : View.ld z0 R0 (ix2 (0 : Fin 1) p) = 0 := by pointwise [z0, k0_pay107, R0]
theorem zero1 (p : Fin 64) : View.ld z0 R1 (ix2 (0 : Fin 1) p) = 0 := by pointwise [z0, k0_pay107, R1]
theorem zero3 (p : Fin 64) : View.ld z0 R3 (ix2 (0 : Fin 1) p) = 0 := by pointwise [z0, k0_pay107, R3]
theorem zero4 (p : Fin 64) : View.ld z0 R4 (ix2 (0 : Fin 1) p) = 0 := by pointwise [z0, k0_pay107, R4]
theorem zeroC (j k : Fin 64) : zC (ix2 j k) = 0 := by pointwise [zC, k0_pay109]
theorem first_apply (x0 : Vec Ideal S32x512x64 .f32) (p : Fin 64) : k0_pay108 (F := Ideal) (eFirst x0) (ix2 0 p) = x0 (ix3 0 0 p) := by
  pointwise [k0_pay108, eFirst]

section
variable {x0 : Vec Ideal S32x512x64 .f32} {x1 : Vec Ideal S32x512 .i32} {x2 : Vec Ideal S64x64 .f32} {x3 x4 : Vec Ideal S1x64 .f32}
  {eb : Fin 32 → Fin 512 → Fin 64 → ℝ} {lb : Fin 32 → Fin 512 → Fin 64} {T : Fin 64 → Fin 64 → ℝ} {en : Fin 64 → ℝ}
  (g0 : ∀ b s k, x0 (ix3 b s k) = (eb b s k : EReal)) (g1 : ∀ b s, x1 (ix2 b s) = BitVec.ofNat 32 (lb b s).val)
  (g2 : ∀ p k, x2 (ix2 p k) = (T p k : EReal)) (g4 : ∀ k, x4 (ix2 0 k) = (en k : EReal))
  {xs0 ys0 : Vec Ideal S8x64 .f32} {xs1 ys1 : Vec Ideal S64x64 .f32} {L E F A Z : Fin 64 → ℝ} {C : Fin 64 → Fin 64 → ℝ}

/-- The logarithms a block adds, all of its rows counted. -/
def dL (T : Fin 64 → Fin 64 → ℝ) (t : Fin 64 → ℝ) (eb : Fin 32 → Fin 512 → Fin 64 → ℝ) (p : Fin 64) : ℝ := ∑ b, ∑ s, rowLog T t (eb b s) p
/-- The emission scores a block adds. -/
def dE (eb : Fin 32 → Fin 512 → Fin 64 → ℝ) (lb : Fin 32 → Fin 512 → Fin 64) (p : Fin 64) : ℝ := ∑ b, ∑ s, eb b s p * one (lb b s) p
/-- The counts of labels at step `s` a block adds. -/
def dN (lb : Fin 32 → Fin 512 → Fin 64) (s : Fin 512) (p : Fin 64) : ℝ := ∑ b, one (lb b s) p
/-- The counts of pairs of labels a block adds. -/
def dP (lb : Fin 32 → Fin 512 → Fin 64) (j k : Fin 64) : ℝ := ∑ b, ∑ s, one (lb b s) j * next (lb b) s k

include g0 g1 g2 in
/-- A point in the middle adds its block's numbers. -/
theorem stepB (i : grid0.Coords) (hz : Scalar.cmpi .eq (BitVec.ofNat 32 (i 0).val) 0#32 = 0#1) (h : Rows xs0 xs1 L E F A Z C)
    (h0 : View.ld ys0 R0 = nLog i x0 x2 (View.ld xs0 R0) ∧ View.ld ys0 R1 = nEm x0 x1 (View.ld xs0 R1) ∧ View.ld ys0 R2 = View.ld xs0 R2
      ∧ View.ld ys0 R3 = k0_pay1 (dSt x1) (View.ld xs0 R3) ∧ View.ld ys0 R4 = k0_pay2 (dEt x1) (View.ld xs0 R4))
    (h1 : ys1 = k0_pay3 (dC x1) xs1) :
    Rows ys0 ys1 (fun p => L p + dL T (top x2) eb p) (fun p => E p + dE eb lb p) F (fun p => A p + dN lb 0 p) (fun p => Z p + dN lb 511 p)
      (fun j k => C j k + dP lb j k) where
  log p := by
    rw [h0.1]; refine (log_add g0 g2 i _ hz _ p).trans ?_
    rw [h.log, if_neg (by decide), ← EReal.coe_add, sub_zero]; rfl
  em p := by rw [h0.2.1]; refine (em_add g0 g1 _ p).trans ?_; rw [h.em, ← EReal.coe_add]; rfl
  first p := by rw [h0.2.2.1]; exact h.first p
  st p := by rw [h0.2.2.2.1]; refine (st_add g1 _ p).trans ?_; rw [h.st, ← EReal.coe_add]; rfl
  et p := by rw [h0.2.2.2.2]; refine (et_add g1 _ p).trans ?_; rw [h.et, ← EReal.coe_add]; rfl
  pairs j k := by rw [h1]; refine (c_add g1 _ j k).trans ?_; rw [h.pairs, ← EReal.coe_add]; rfl

include g0 g1 g2 in
/-- The first point starts from zero, leaves the first sequence's logarithms out and keeps its first scores. -/
theorem stepA (i : grid0.Coords) (hz : Scalar.cmpi .eq (BitVec.ofNat 32 (i 0).val) 0#32 = 1#1)
    (h0 : View.ld ys0 R0 = nLog i x0 x2 (View.ld z0 R0) ∧ View.ld ys0 R1 = nEm x0 x1 (View.ld z0 R1) ∧ View.ld ys0 R2 = k0_pay108 (eFirst x0)
      ∧ View.ld ys0 R3 = k0_pay1 (dSt x1) (View.ld z0 R3) ∧ View.ld ys0 R4 = k0_pay2 (dEt x1) (View.ld z0 R4))
    (h1 : ys1 = k0_pay3 (dC x1) zC) :
    Rows ys0 ys1 (fun p => dL T (top x2) eb p - ∑ s, rowLog T (top x2) (eb 0 s) p) (dE eb lb) (fun p => eb 0 0 p) (dN lb 0) (dN lb 511) (dP lb) where
  log p := by
    rw [h0.1]; refine (log_add g0 g2 i _ hz _ p).trans ?_
    rw [zero0, zero_add, if_pos rfl]; rfl
  em p := by rw [h0.2.1]; refine (em_add g0 g1 _ p).trans ?_; rw [zero1, zero_add]; rfl
  first p := by rw [h0.2.2.1, ← g0]; exact first_apply x0 p
  st p := by rw [h0.2.2.2.1]; refine (st_add g1 _ p).trans ?_; rw [zero3, zero_add]; rfl
  et p := by rw [h0.2.2.2.2]; refine (et_add g1 _ p).trans ?_; rw [zero4, zero_add]; rfl
  pairs j k := by rw [h1]; refine (c_add g1 _ j k).trans ?_; rw [zeroC, zero_add]; rfl

theorem pay4_apply (a b c d : FVec Ideal S1x1 .f32) (e : FVec Ideal S1x64 .f32) :
    k0_pay4 (F := Ideal) a b c d e (ix2 0 0)
      = Ideal.div (a (ix2 0 0) - b (ix2 0 0) - c (ix2 0 0) - d (ix2 0 0) - ∑ _ : Fin 1, ∑ x : Fin 64, e (ix2 0 x)) (Ideal.ofBits .f32 1124073472#32) := by
  pointwise [k0_pay4]

theorem pay5_apply (a b c : FVec Ideal S1x64 .f32) (f : Fin 64 → ℝ)
    (hf : ∀ x, b (ix2 0 x) + c (ix2 0 x) + Ideal.ofBits .f32 1199439872#32 * a (ix2 0 x) = (f x : EReal)) :
    k0_pay5 (F := Ideal) a b c (ix2 0 0) = (lse f : EReal) := by
  pointwise [k0_pay5]
  obtain ⟨M, hM⟩ := fold_max_real (fun x : Fin 64 => b (ix2 0 x) + c (ix2 0 x) + Ideal.ofBits .f32 1199439872#32 * a (ix2 0 x)) f hf
  have h : ∀ N : EReal, N = (M : EReal) → N + Ideal.log (∑ x : Fin 64, Ideal.exp (b (ix2 0 x) + c (ix2 0 x) + Ideal.ofBits .f32 1199439872#32 * a (ix2 0 x) - N)) = (lse f : EReal) := by
    rintro N rfl
    simp only [hf]
    rw [log_sum_exp_sub, ← EReal.coe_add]
    exact congrArg _ (by ring)
  exact h _ hM

theorem pay6_apply (f : FVec Ideal S1x64 .f32) : k0_pay6 (F := Ideal) f (ix2 0 0) = ∑ x : Fin 64, f (ix2 0 x) := by
  pointwise [k0_pay6]
theorem pay7_apply (a b : FVec Ideal S64x64 .f32) : k0_pay7 (F := Ideal) a b (ix2 0 0) = ∑ x : Fin 64, ∑ y : Fin 64, b (ix2 x y) * a (ix2 x y) := by
  pointwise [k0_pay7]
theorem pay8_apply (a b : FVec Ideal S1x64 .f32) : k0_pay8 (F := Ideal) a b (ix2 0 0) = ∑ _ : Fin 1, ∑ x : Fin 64, a (ix2 0 x) * b (ix2 0 x) := by
  pointwise [k0_pay8]
theorem pay9_apply (a b : FVec Ideal S1x64 .f32) (p : Fin 64) : k0_pay9 (F := Ideal) a b (ix2 0 p) = a (ix2 0 p) * b (ix2 0 p) := by
  pointwise [k0_pay9]

include g0 g1 g2 g4 in
/-- What the last point writes. -/
theorem stepC (i : grid0.Coords) (hz : Scalar.cmpi .eq (BitVec.ofNat 32 (i 0).val) 0#32 = 0#1) (h : Rows xs0 xs1 L E F A Z C) :
    k0_pay4 (F := Ideal) (k0_pay5 (k0_pay11 x2) (View.ld xs0 R2) (nLog i x0 x2 (View.ld xs0 R0))) (k0_pay6 (nEm x0 x1 (View.ld xs0 R1)))
        (k0_pay7 x2 (k0_pay3 (dC x1) xs1)) (k0_pay8 (k0_pay1 (dSt x1) (View.ld xs0 R3)) x3) (k0_pay9 (k0_pay2 (dEt x1) (View.ld xs0 R4)) x4) (ix2 0 0)
      = Ideal.div (((lse fun p => F p + (L p + dL T (top x2) eb p) + 65024 * top x2 p : ℝ) : EReal) - ((∑ p, (E p + dE eb lb p) : ℝ) : EReal)
          - ((∑ j, ∑ k, (C j k + dP lb j k) * T j k : ℝ) : EReal) - (∑ p, ((A p + dN lb 0 p : ℝ) : EReal) * x3 (ix2 0 p))
          - ((∑ p, (Z p + dN lb 511 p) * en p : ℝ) : EReal)) (Ideal.ofBits .f32 1124073472#32) := by
  rw [pay4_apply]
  refine congrArg (Ideal.div · _) ?_
  have e1 := pay5_apply (k0_pay11 (F := Ideal) x2) (View.ld xs0 R2) (nLog (F := Ideal) i x0 x2 (View.ld xs0 R0)) (fun p => F p + (L p + dL T (top x2) eb p) + 65024 * top x2 p)
    fun p => by
      rw [log_add g0 g2 i _ hz, top_eq g2, stepsBits, if_neg (by decide), sub_zero]
      refine (congrArg₂ (· + ·) (congrArg₂ (· + ·) (h.first p) (congrArg₂ (· + ·) (h.log p) rfl)) (EReal.coe_mul _ _).symm).trans ?_
      rw [← EReal.coe_add, ← EReal.coe_add, ← EReal.coe_add]; rfl
  have e2 : k0_pay6 (F := Ideal) (nEm (F := Ideal) x0 x1 (View.ld xs0 R1)) (ix2 0 0) = ((∑ p, (E p + dE eb lb p) : ℝ) : EReal) := by
    rw [pay6_apply]
    refine (Finset.sum_congr rfl fun p _ => ?_).trans (coe_sum _ _)
    refine (em_add g0 g1 _ p).trans ?_
    rw [h.em, ← EReal.coe_add]; rfl
  have e3 : k0_pay7 (F := Ideal) x2 (k0_pay3 (F := Ideal) (dC x1) xs1) (ix2 0 0) = ((∑ j, ∑ k, (C j k + dP lb j k) * T j k : ℝ) : EReal) := by
    rw [pay7_apply]
    refine (Finset.sum_congr rfl fun j _ => ?_).trans (coe_sum _ _)
    refine (Finset.sum_congr rfl fun k _ => ?_).trans (coe_sum _ _)
    rw [c_add g1, h.pairs, g2, ← EReal.coe_add, ← EReal.coe_mul]; rfl
  have e4 : k0_pay8 (F := Ideal) (k0_pay1 (F := Ideal) (dSt x1) (View.ld xs0 R3)) x3 (ix2 0 0) = ∑ p, ((A p + dN lb 0 p : ℝ) : EReal) * x3 (ix2 0 p) := by
    rw [pay8_apply, Fin.sum_univ_one]
    refine Finset.sum_congr rfl fun p _ => congrArg (· * x3 (ix2 0 p)) ?_
    refine (st_add g1 _ p).trans ?_
    rw [h.st, ← EReal.coe_add]; rfl
  have e5 : (∑ _ : Fin 1, ∑ p : Fin 64, k0_pay9 (F := Ideal) (k0_pay2 (F := Ideal) (dEt x1) (View.ld xs0 R4)) x4 (ix2 0 p)) = ((∑ p, (Z p + dN lb 511 p) * en p : ℝ) : EReal) := by
    rw [Fin.sum_univ_one]
    refine (Finset.sum_congr rfl fun p _ => ?_).trans (coe_sum _ _)
    rw [pay9_apply, et_add g1, g4, EReal.coe_mul]
    refine congrArg (· * _) ?_
    refine (congrArg (· + _) (h.et p)).trans ?_
    rw [← EReal.coe_add]; rfl
  exact congrArg₂ (· - ·) (congrArg₂ (· - ·) (congrArg₂ (· - ·) (congrArg₂ (· - ·) e1 e2) e3) e4) e5

end
end Cert.KernelIdeal.Steps
end
-- ==== Proof.KernelBlocks.lean ====
module

public import proofs.«01_k».proof.Proof.KernelIdx
public import Idealize.ShloMosaic.Lib.StableHlo.ReadAt

/-! The blocks the kernel's grid points read, as rows of the arguments: point `t` reads sequences `32 t … 32 t + 31`. -/

@[expose] public section
set_option maxRecDepth 16384
noncomputable section
namespace Cert.KernelIdeal.Steps
open Cert.KernelIdeal Cert.KernelIdeal.Gen Idealize.ShloMosaic Idealize.ShloMosaic.TcCoe Idealize.SL.Sem Cert.Crf

variable (m : (ℓ : Loc nD τ sig) → Buf (Elt Ideal) ℓ) (c : Dev nD)

theorem t_lt (t : Fin cfg0.N) : t.val < 4 := lt_of_lt_of_eq t.isLt N_0

/-- Sequence `b` of point `n`'s block, as a sequence of the batch. -/
def seq (n : Fin 4) (b : Fin 32) : Fin 128 := ⟨32 * n.val + b.val, by omega⟩

theorem blk_emit (t : Fin cfg0.N) (b : Fin 32) (s : Fin 512) (k : Fin 64) :
    (iblk m c 0 t : Vec Ideal S32x512x64 .f32) (ix3 b s k) = m ((c : Thread nD τ).loc main_arg0) (ix3 (seq ⟨t.val, t_lt t⟩ b) s k) := by
  have hi : win0_0.index t 0 = t.val ∧ win0_0.index t 1 = 0 ∧ win0_0.index t 2 = 0 := by
    rcases fin_N0 t with rfl | rfl | rfl | rfl <;> decide
  unfold iblk
  rw [View.read_apply]
  show V m c main_arg0 _ = m (c.tc.loc main_arg0) _
  rw [V_main_arg0]
  congr 1
  funext a
  apply Fin.ext
  match a with
  | ⟨0, _⟩ => show win0_0.index t 0 * 32 + 1 * b.val = 32 * t.val + b.val; rw [hi.1]; omega
  | ⟨1, _⟩ => show win0_0.index t 1 * 512 + 1 * s.val = s.val; rw [hi.2.1]; omega
  | ⟨2, _⟩ => show win0_0.index t 2 * 64 + 1 * k.val = k.val; rw [hi.2.2]; omega

theorem blk_labels (t : Fin cfg0.N) (b : Fin 32) (s : Fin 512) :
    (iblk m c 1 t : Vec Ideal S32x512 .i32) (ix2 b s) = m ((c : Thread nD τ).loc main_arg1) (ix2 (seq ⟨t.val, t_lt t⟩ b) s) := by
  have hi : win0_1.index t 0 = t.val ∧ win0_1.index t 1 = 0 := by
    rcases fin_N0 t with rfl | rfl | rfl | rfl <;> decide
  unfold iblk
  rw [View.read_apply]
  show V m c main_arg1 _ = m (c.tc.loc main_arg1) _
  rw [V_main_arg1]
  congr 1
  funext a
  apply Fin.ext
  match a with
  | ⟨0, _⟩ => show win0_1.index t 0 * 32 + 1 * b.val = 32 * t.val + b.val; rw [hi.1]; omega
  | ⟨1, _⟩ => show win0_1.index t 1 * 512 + 1 * s.val = s.val; rw [hi.2]; omega

theorem blk_trans (t : Fin cfg0.N) (p k : Fin 64) :
    (iblk m c 2 t : Vec Ideal S64x64 .f32) (ix2 p k) = m ((c : Thread nD τ).loc main_arg3) (ix2 p k) := by
  have hi : win0_2.index t 0 = 0 ∧ win0_2.index t 1 = 0 := by
    rcases fin_N0 t with rfl | rfl | rfl | rfl <;> decide
  unfold iblk
  rw [View.read_apply]
  show V m c main_arg3 _ = m (c.tc.loc main_arg3) _
  rw [V_main_arg3]
  congr 1
  funext a
  apply Fin.ext
  match a with
  | ⟨0, _⟩ => show win0_2.index t 0 * 64 + 1 * p.val = p.val; rw [hi.1]; omega
  | ⟨1, _⟩ => show win0_2.index t 1 * 64 + 1 * k.val = k.val; rw [hi.2]; omega

theorem V_start (k : Fin 64) : V m c main_v0 (ix2 (0 : Fin 1) k) = m ((c : Thread nD τ).loc main_arg4) (ix1 k) := by
  unfold V
  after_reads_at

theorem V_end (k : Fin 64) : V m c main_v1 (ix2 (0 : Fin 1) k) = m ((c : Thread nD τ).loc main_arg5) (ix1 k) := by
  unfold V
  after_reads_at

theorem blk_start (t : Fin cfg0.N) (k : Fin 64) :
    (iblk m c 3 t : Vec Ideal S1x64 .f32) (ix2 0 k) = m ((c : Thread nD τ).loc main_arg4) (ix1 k) := by
  have hi : win0_3.index t 0 = 0 ∧ win0_3.index t 1 = 0 := by
    rcases fin_N0 t with rfl | rfl | rfl | rfl <;> decide
  unfold iblk
  rw [View.read_apply, ← V_start m c k]
  show V m c main_v0 _ = V m c main_v0 _
  congr 1
  funext a
  apply Fin.ext
  match a with
  | ⟨0, _⟩ => show win0_3.index t 0 * 1 + 1 * 0 = 0; rw [hi.1]
  | ⟨1, _⟩ => show win0_3.index t 1 * 64 + 1 * k.val = k.val; rw [hi.2]; omega

theorem blk_end (t : Fin cfg0.N) (k : Fin 64) :
    (iblk m c 4 t : Vec Ideal S1x64 .f32) (ix2 0 k) = m ((c : Thread nD τ).loc main_arg5) (ix1 k) := by
  have hi : win0_4.index t 0 = 0 ∧ win0_4.index t 1 = 0 := by
    rcases fin_N0 t with rfl | rfl | rfl | rfl <;> decide
  unfold iblk
  rw [View.read_apply, ← V_end m c k]
  show V m c main_v1 _ = V m c main_v1 _
  congr 1
  funext a
  apply Fin.ext
  match a with
  | ⟨0, _⟩ => show win0_4.index t 0 * 1 + 1 * 0 = 0; rw [hi.1]
  | ⟨1, _⟩ => show win0_4.index t 1 * 64 + 1 * k.val = k.val; rw [hi.2]; omega

end Cert.KernelIdeal.Steps
end
-- ==== Proof.Total.lean ====
module

public import proofs.«01_k».proof.Proof.KernelRows
public import proofs.«01_k».proof.Proof.KernelBlocks

/-! The four blocks' numbers add up to the field's loss. -/

@[expose] public section
noncomputable section
namespace Cert.KernelIdeal.Steps
open Cert.KernelIdeal Cert.KernelIdeal.Gen Idealize.ShloMosaic Idealize.SL.Sem Cert.Crf

variable (e : Fin 128 → Fin 512 → Fin 64 → ℝ) (lab : Fin 128 → Fin 512 → Fin 64) (T : Fin 64 → Fin 64 → ℝ) (en : Fin 64 → ℝ)
  (st : Fin 64 → EReal) (t : Fin 64 → ℝ)

/-- Block `n` of the scores and of the labels. -/
def eB (n : Fin 4) (b : Fin 32) : Fin 512 → Fin 64 → ℝ := e (seq n b)
def lB (n : Fin 4) (b : Fin 32) : Fin 512 → Fin 64 := lab (seq n b)

theorem four {M : Type} [AddCommMonoid M] (f : Fin 128 → M) :
    (∑ b, f (seq 0 b)) + (∑ b, f (seq 1 b)) + (∑ b, f (seq 2 b)) + (∑ b, f (seq 3 b)) = ∑ B, f B := by
  rw [sum_blocks f]
  simp only [Fin.sum_univ_four]
  rfl

theorem alpha_eq (p : Fin 64) :
    eB e 0 0 0 p + ((((dL T t (eB e 0) p - ∑ s, rowLog T t (eB e 0 0 s) p) + dL T t (eB e 1) p) + dL T t (eB e 2) p) + dL T t (eB e 3) p) + 65024 * t p
      = alpha e T p := by
  have h := four fun B => ∑ s, rowLog T t (e B s) p
  have hs : ∀ B, (∑ s, rowLog T t (e B s) p) = (∑ s, ell e T B s p) - 512 * t p := by
    intro B
    unfold rowLog
    rw [Finset.sum_sub_distrib, Finset.sum_const, Finset.card_univ, Fintype.card_fin, nsmul_eq_mul]
    rfl
  have ha : (∑ s : Fin 512, ∑ b : Fin 128, if b = 0 then 0 else ell e T b s p) = (∑ B, ∑ s, ell e T B s p) - ∑ s, ell e T 0 s p := by
    rw [Finset.sum_comm (f := fun B s => ell e T B s p), ← Finset.sum_sub_distrib]
    refine Finset.sum_congr rfl fun s _ => ?_
    rw [eq_sub_iff_add_eq]
    have : ell e T 0 s p = ∑ b : Fin 128, if b = 0 then ell e T b s p else 0 := by
      rw [Finset.sum_ite_eq' Finset.univ (0 : Fin 128) fun b => ell e T b s p, if_pos (Finset.mem_univ _)]
    rw [this, ← Finset.sum_add_distrib]
    refine Finset.sum_congr rfl fun b _ => ?_
    split <;> simp
  have h0 : seq 0 0 = 0 := rfl
  have hb : (∑ B, ∑ s, rowLog T t (e B s) p) = (∑ B, ∑ s, ell e T B s p) - 65536 * t p := by
    simp only [hs]
    rw [Finset.sum_sub_distrib, Finset.sum_const, Finset.card_univ, Fintype.card_fin, nsmul_eq_mul]
    push_cast; ring
  unfold alpha
  rw [ha]
  have h1 := hs 0
  unfold dL eB at *
  rw [h0]
  rw [hb] at h
  linarith

theorem emit_eq : (∑ p, (((dE (eB e 0) (lB lab 0) p + dE (eB e 1) (lB lab 1) p) + dE (eB e 2) (lB lab 2) p) + dE (eB e 3) (lB lab 3) p)) = emitScore e lab := by
  have h : ∀ p, (((dE (eB e 0) (lB lab 0) p + dE (eB e 1) (lB lab 1) p) + dE (eB e 2) (lB lab 2) p) + dE (eB e 3) (lB lab 3) p)
      = ∑ B, ∑ s, e B s p * one (lab B s) p := fun p => four fun B => ∑ s, e B s p * one (lab B s) p
  simp only [h]
  rw [Finset.sum_comm]
  refine Finset.sum_congr rfl fun B _ => ?_
  rw [Finset.sum_comm]
  refine Finset.sum_congr rfl fun s _ => ?_
  simp [one]

theorem trans_eq : (∑ j, ∑ k, (((dP (lB lab 0) j k + dP (lB lab 1) j k) + dP (lB lab 2) j k) + dP (lB lab 3) j k) * T j k) = transScore lab T := by
  have h : ∀ j k, (((dP (lB lab 0) j k + dP (lB lab 1) j k) + dP (lB lab 2) j k) + dP (lB lab 3) j k)
      = ∑ B, ∑ s, one (lab B s) j * next (lab B) s k := fun j k => four fun B => ∑ s, one (lab B s) j * next (lab B) s k
  have h2 : ∀ B (s : Fin 512), (∑ j, ∑ k, one (lab B s) j * next (lab B) s k * T j k) = ∑ k, next (lab B) s k * T (lab B s) k := by
    intro B s
    rw [Finset.sum_comm]
    refine Finset.sum_congr rfl fun k _ => ?_
    simp [one]
  simp only [h, Finset.sum_mul]
  have h3 : (∑ j, ∑ k, ∑ B, ∑ s, one (lab B s) j * next (lab B) s k * T j k) = ∑ B, ∑ s, ∑ j, ∑ k, one (lab B s) j * next (lab B) s k * T j k := by
    have a : ∀ j, (∑ k, ∑ B, ∑ s, one (lab B s) j * next (lab B) s k * T j k) = ∑ B, ∑ s, ∑ k, one (lab B s) j * next (lab B) s k * T j k := by
      intro j
      rw [Finset.sum_comm]
      exact Finset.sum_congr rfl fun B _ => Finset.sum_comm
    simp only [a]
    rw [Finset.sum_comm]
    exact Finset.sum_congr rfl fun B _ => Finset.sum_comm
  rw [h3]
  simp only [h2]
  refine Finset.sum_congr rfl fun B _ => ?_
  rw [Fin.sum_univ_castSucc]
  have hl : (∑ k, next (lab B) (Fin.last 511) k * T (lab B (Fin.last 511)) k) = 0 := Finset.sum_eq_zero fun k _ => by
    unfold next; rw [dif_neg (by simp), zero_mul]
  rw [hl, add_zero]
  refine Finset.sum_congr rfl fun s _ => ?_
  have hn : ∀ k, next (lab B) s.castSucc k = one (lab B s.succ) k := by
    intro k
    unfold next
    have hs : (s.castSucc).val < 511 := s.isLt
    rw [dif_pos hs]
    exact congrArg (fun x => one (lab B x) k) (Fin.ext (by show 1 + s.val = s.val + 1; omega))
  simp [hn, one]

theorem start_eq : (∑ p, ((((dN (lB lab 0) 0 p + dN (lB lab 1) 0 p) + dN (lB lab 2) 0 p) + dN (lB lab 3) 0 p : ℝ) : EReal) * st p) = ∑ B, st (lab B 0) := by
  have h : ∀ p, (((dN (lB lab 0) 0 p + dN (lB lab 1) 0 p) + dN (lB lab 2) 0 p) + dN (lB lab 3) 0 p) = ∑ B, one (lab B 0) p :=
    fun p => four fun B => one (lab B 0) p
  have h1 : ∀ (p : Fin 64) (S : Finset (Fin 128)), ((∑ B ∈ S, one (lab B 0) p : ℝ) : EReal) * st p = ∑ B ∈ S, ((one (lab B 0) p : ℝ) : EReal) * st p := by
    intro p S
    have hp : ∀ B, 0 ≤ one (lab B 0) p := fun B => by unfold one; split <;> norm_num
    induction S using Finset.induction_on with
    | empty => simp
    | insert B S hB ih =>
      rw [Finset.sum_insert hB, Finset.sum_insert hB, EReal.coe_add, EReal.right_distrib_of_nonneg (EReal.coe_nonneg.2 (hp B)) (EReal.coe_nonneg.2 (Finset.sum_nonneg fun B _ => hp B)), ih]
  simp only [h, h1]
  rw [Finset.sum_comm]
  refine Finset.sum_congr rfl fun B _ => ?_
  rw [Finset.sum_eq_single (lab B 0)]
  · simp [one]
  · intro p _ hp
    unfold one; rw [if_neg (Ne.symm hp)]; simp
  · intro hh; exact absurd (Finset.mem_univ _) hh

theorem end_eq : (∑ p, (((dN (lB lab 0) 511 p + dN (lB lab 1) 511 p) + dN (lB lab 2) 511 p) + dN (lB lab 3) 511 p) * en p) = ∑ B, en (lab B 511) := by
  have h : ∀ p, (((dN (lB lab 0) 511 p + dN (lB lab 1) 511 p) + dN (lB lab 2) 511 p) + dN (lB lab 3) 511 p) = ∑ B, one (lab B 511) p :=
    fun p => four fun B => one (lab B 511) p
  simp only [h, Finset.sum_mul]
  rw [Finset.sum_comm]
  refine Finset.sum_congr rfl fun B _ => ?_
  simp [one]

theorem regroup (a b c d : ℝ) (s : EReal) : (a : EReal) - b - c - s - d = a - (b + c + s + d) := by
  induction s using EReal.rec with
  | bot => rw [← EReal.coe_sub, ← EReal.coe_sub, ← EReal.coe_add, EReal.add_bot, EReal.bot_add, EReal.sub_bot (EReal.coe_ne_bot _), EReal.sub_bot (EReal.coe_ne_bot _)]; exact EReal.top_sub_coe d
  | top => rw [← EReal.coe_sub, ← EReal.coe_sub, ← EReal.coe_add, EReal.coe_add_top, EReal.top_add_coe, EReal.sub_top, EReal.sub_top]; rfl
  | coe s => norm_cast; ring_nf

end Cert.KernelIdeal.Steps
end
-- ==== Proof.KernelValue.lean ====
module

public import proofs.«01_k».proof.Proof.Total

/-! The kernel's result: the four points' fold read as the field's loss. -/

@[expose] public section
set_option maxRecDepth 16384
noncomputable section
namespace Cert.KernelIdeal.Steps
open Cert.KernelIdeal Cert.KernelIdeal.Gen Cert.KernelIdeal.Value Idealize.ShloMosaic Idealize.ShloMosaic.TcCoe Idealize.SL.Sem Cert.Crf

variable {m : (ℓ : Loc nD τ sig) → Buf (Elt Ideal) ℓ} {c : Dev nD}
  {e : Fin 128 → Fin 512 → Fin 64 → ℝ} {lab : Fin 128 → Fin 512 → Fin 64} {T : Fin 64 → Fin 64 → ℝ} {en : Fin 64 → ℝ}
  (h0 : ∀ b s k, m ((c : Thread nD τ).loc main_arg0) (ix3 b s k) = (e b s k : EReal))
  (h1 : ∀ b s, m ((c : Thread nD τ).loc main_arg1) (ix2 b s) = BitVec.ofNat 32 (lab b s).val)
  (h3 : ∀ p k, m ((c : Thread nD τ).loc main_arg3) (ix2 p k) = (T p k : EReal))
  (h5 : ∀ k, m ((c : Thread nD τ).loc main_arg5) (ix1 k) = (en k : EReal))

/-- The number of a point. -/
abbrev num (t : Fin cfg0.N) : Fin 4 := ⟨t.val, t_lt t⟩

include h0 in
theorem read0 (t : Fin cfg0.N) (b : Fin 32) (s : Fin 512) (k : Fin 64) :
    (iblk m c 0 t : Vec Ideal S32x512x64 .f32) (ix3 b s k) = (eB e (num t) b s k : EReal) := (blk_emit m c t b s k).trans (h0 _ _ _)

include h1 in
theorem read1 (t : Fin cfg0.N) (b : Fin 32) (s : Fin 512) :
    (iblk m c 1 t : Vec Ideal S32x512 .i32) (ix2 b s) = BitVec.ofNat 32 (lB lab (num t) b s).val := (blk_labels m c t b s).trans (h1 _ _)

include h3 in
theorem read2 (t : Fin cfg0.N) (p k : Fin 64) :
    (iblk m c 2 t : Vec Ideal S64x64 .f32) (ix2 p k) = (T p k : EReal) := (blk_trans m c t p k).trans (h3 _ _)

include h5 in
theorem read4 (t : Fin cfg0.N) (k : Fin 64) :
    (iblk m c 4 t : Vec Ideal S1x64 .f32) (ix2 0 k) = (en k : EReal) := (blk_end m c t k).trans (h5 _)

/-- The greatest transition scores, the same at every point. -/
def tops (m : (ℓ : Loc nD τ sig) → Buf (Elt Ideal) ℓ) (c : Dev nD) : Fin 64 → ℝ := top (m ((c : Thread nD τ).loc main_arg3))

theorem tops_eq (t : Fin cfg0.N) : top (iblk m c 2 t) = tops m c := by
  have h : (iblk m c 2 t : Vec Ideal S64x64 .f32) = m ((c : Thread nD τ).loc main_arg3) := by
    funext i
    have hi : i = ix2 (i 0) (i 1) := by funext a; match a with | ⟨0, _⟩ => rfl | ⟨1, _⟩ => rfl
    rw [hi]; exact blk_trans m c t (i 0) (i 1)
  unfold tops; rw [← h]

theorem first_point (t : Fin cfg0.N) (h : t.val = 0) : Scalar.cmpi .eq (BitVec.ofNat 32 ((grid0.coords t) 0).val) 0#32 = 1#1 := by
  rcases fin_N0 t with rfl | rfl | rfl | rfl
  · decide
  all_goals exact absurd h (by decide)

theorem later_point (t : Fin cfg0.N) (h : t.val ≠ 0) : Scalar.cmpi .eq (BitVec.ofNat 32 ((grid0.coords t) 0).val) 0#32 = 0#1 := by
  rcases fin_N0 t with rfl | rfl | rfl | rfl
  · exact absurd rfl h
  all_goals decide

include h0 h1 h3 in
theorem atA (t : Fin cfg0.N) (ht : t.val = 0) (acc : Vec Ideal S1x1 .f32 × Vec Ideal S8x64 .f32 × Vec Ideal S64x64 .f32) :
    Rows (stAt0 m c t.val t.isLt acc).2.1 (stAt0 m c t.val t.isLt acc).2.2
      (fun p => dL T (tops m c) (eB e (num t)) p - ∑ s, rowLog T (tops m c) (eB e (num t) 0 s) p) (dE (eB e (num t)) (lB lab (num t)))
      (fun p => eB e (num t) 0 0 p) (dN (lB lab (num t)) 0) (dN (lB lab (num t)) 511) (dP (lB lab (num t))) := by
  rw [stAt0_A m c t acc (by omega) (by omega), ← tops_eq t]
  dsimp only
  exact stepA (read0 h0 t) (read1 h1 t) (read2 h3 t) _ (first_point t ht) (sA0 (F := Ideal) _ _ _ _ _ _ _ _ _ _ _ _ _ _ _ _ _ _ _ _ _ _ _ _ _) (sA1 (F := Ideal) _ _ _ _ _ _ _ _ _ _ _ _ _ _ _ _ _ _ _ _ _ _ _ _ _)

include h0 h1 h3 in
theorem atB (t : Fin cfg0.N) (ht : t.val ≠ 0) (ht' : t.val ≠ 3) (acc : Vec Ideal S1x1 .f32 × Vec Ideal S8x64 .f32 × Vec Ideal S64x64 .f32)
    {L E F A Z : Fin 64 → ℝ} {C : Fin 64 → Fin 64 → ℝ} (h : Rows acc.2.1 acc.2.2 L E F A Z C) :
    Rows (stAt0 m c t.val t.isLt acc).2.1 (stAt0 m c t.val t.isLt acc).2.2
      (fun p => L p + dL T (tops m c) (eB e (num t)) p) (fun p => E p + dE (eB e (num t)) (lB lab (num t)) p) F
      (fun p => A p + dN (lB lab (num t)) 0 p) (fun p => Z p + dN (lB lab (num t)) 511 p) (fun j k => C j k + dP (lB lab (num t)) j k) := by
  have := t_lt t
  rw [stAt0_B m c t acc (by omega) (by omega), ← tops_eq t]
  dsimp only
  exact stepB (read0 h0 t) (read1 h1 t) (read2 h3 t) _ (later_point t ht) h (sB0 (F := Ideal) _ _ _ _ _ _ _ _ _ _ _ _ _ _ _ _ _ _ _ _ _ _ _ _ _ _ _) (sB1 (F := Ideal) _ _ _ _ _ _ _ _ _ _ _ _ _ _ _ _ _ _ _ _ _ _ _ _ _ _ _)

include h0 h1 h3 h5 in
theorem atC (t : Fin cfg0.N) (ht : t.val = 3) (acc : Vec Ideal S1x1 .f32 × Vec Ideal S8x64 .f32 × Vec Ideal S64x64 .f32)
    {L E F A Z : Fin 64 → ℝ} {C : Fin 64 → Fin 64 → ℝ} (h : Rows acc.2.1 acc.2.2 L E F A Z C) :
    (stAt0 m c t.val t.isLt acc).1 (ix2 (0 : Fin 1) (0 : Fin 1))
      = Ideal.div (((lse fun p => F p + (L p + dL T (tops m c) (eB e (num t)) p) + 65024 * tops m c p : ℝ) : EReal)
          - ((∑ p, (E p + dE (eB e (num t)) (lB lab (num t)) p) : ℝ) : EReal)
          - ((∑ j, ∑ k, (C j k + dP (lB lab (num t)) j k) * T j k : ℝ) : EReal)
          - (∑ p, ((A p + dN (lB lab (num t)) 0 p : ℝ) : EReal) * m ((c : Thread nD τ).loc main_arg4) (ix1 p))
          - ((∑ p, (Z p + dN (lB lab (num t)) 511 p) * en p : ℝ) : EReal)) (Ideal.ofBits .f32 1124073472#32) := by
  rw [stAt0_C m c t acc (by omega) (by omega), ← tops_eq t]
  have hs : (∑ p, ((A p + dN (lB lab (num t)) 0 p : ℝ) : EReal) * (iblk m c 3 t : Vec Ideal S1x64 .f32) (ix2 0 p))
      = ∑ p, ((A p + dN (lB lab (num t)) 0 p : ℝ) : EReal) * m ((c : Thread nD τ).loc main_arg4) (ix1 p) :=
    Finset.sum_congr rfl fun p _ => congrArg _ (blk_start m c t p)
  rw [← hs]
  dsimp only
  refine (congrFun (oC5 (F := Ideal) _ _ _ _ _ _ _ _ _ _ _ _ _ _ _ _ _ _ _ _ _ _ _ _ _ _ _) _).trans ?_
  exact stepC (read0 h0 t) (read1 h1 t) (read2 h3 t) (read4 h5 t) _ (later_point t (by omega)) h

include h0 h1 h3 h5 in
/-- The kernel's result. -/
theorem G5_value : G5 m c (ix2 (0 : Fin 1) (0 : Fin 1)) = answer e lab T en (fun k => m ((c : Thread nD τ).loc main_arg4) (ix1 k)) := by
  have hN : ∀ n, n < 4 → n < cfg0.N := fun n h => lt_of_lt_of_eq h N_0.symm
  have hA := atA h0 h1 h3 ⟨0, hN 0 (by decide)⟩ rfl junk0
  have hB := atB h0 h1 h3 ⟨1, hN 1 (by decide)⟩ (show (1 : ℕ) ≠ 0 by decide) (show (1 : ℕ) ≠ 3 by decide) _ hA
  have hC := atB h0 h1 h3 ⟨2, hN 2 (by decide)⟩ (show (2 : ℕ) ≠ 0 by decide) (show (2 : ℕ) ≠ 3 by decide) _ hB
  have hD := atC h0 h1 h3 h5 ⟨3, hN 3 (by decide)⟩ rfl _ hC
  have hf : Pipeline.accAt (fun n h => stAt0 m c n h junk0) (stAt0 m c) 0 3 (hN 3 (by decide))
      = stAt0 m c 3 (hN 3 (by decide)) (stAt0 m c 2 (hN 2 (by decide)) (stAt0 m c 1 (hN 1 (by decide)) (stAt0 m c 0 (hN 0 (by decide)) junk0))) := rfl
  rw [G5_last, hf]
  refine Eq.trans hD ?_
  refine congrArg (Ideal.div · _) ?_
  have ea := funext (alpha_eq e T (tops m c))
  refine Eq.trans (congrArg₂ (· - ·) (congrArg₂ (· - ·) (congrArg₂ (· - ·) (congrArg₂ (· - ·) (congrArg (fun f => ((lse f : ℝ) : EReal)) ea)
    (congrArg _ (emit_eq e lab))) (congrArg _ (trans_eq lab T))) (start_eq lab fun k => m ((c : Thread nD τ).loc main_arg4) (ix1 k)))
    (congrArg _ (end_eq lab en))) ?_
  exact regroup _ _ _ _ _

end Cert.KernelIdeal.Steps
end
-- ==== Proof.Given.lean ====
module

public import proofs.«01_k».proof.Defs
public import proofs.«01_k».proof.Proof.Gen.Pre_labels_and_mask
public import Idealize.ShloMosaic.Lib.Pointwise

/-! What the precondition says of the arguments: real scores, labels below 64, a mask that is true everywhere. -/

@[expose] public section
noncomputable section
namespace Cert.Crf
open Idealize.ShloMosaic Idealize.SL.Sem

theorem andi_ones (a b : BitVec 1) (h : IntOp.andi a b = 1#1) : a = 1#1 ∧ b = 1#1 := by
  revert a b; decide

theorem real_of_bounds (x : EReal) (h1 : Ideal.cmp .ogt x (Ideal.ofBits .f32 0xFF800000#32) = 1#1)
    (h2 : Ideal.cmp .olt x (Ideal.ofBits .f32 0x7F800000#32) = 1#1) : x = (x.toReal : EReal) := by
  have e1 : Ideal.ofBits .f32 0xFF800000#32 = ⊥ := by simp [Ideal.ofBits, Ideal.ieee]
  have e2 : Ideal.ofBits .f32 0x7F800000#32 = ⊤ := by simp [Ideal.ofBits, Ideal.ieee]
  rw [e1] at h1
  rw [e2] at h2
  have l : x ≠ ⊥ := by rintro rfl; simp [Ideal.cmp] at h1
  have r : x ≠ ⊤ := by rintro rfl; simp [Ideal.cmp] at h2
  exact (EReal.coe_toReal r l).symm

theorem label_of_bounds (v : BitVec 32) (h1 : IntOp.cmpi .sge v 0#32 = 1#1) (h2 : IntOp.cmpi .slt v 64#32 = 1#1) :
    v = BitVec.ofNat 32 (v.toNat % 64) := by
  have a1 : (0#32).sle v = true := by
    by_contra hc
    rw [Bool.not_eq_true] at hc
    simp [IntOp.cmpi, hc] at h1
  have a2 : v.slt 64#32 = true := by
    by_contra hc
    rw [Bool.not_eq_true] at hc
    simp [IntOp.cmpi, hc] at h2
  rw [BitVec.sle_iff_toInt_le] at a1
  rw [BitVec.slt_iff_toInt_lt] at a2
  have c0 : (0#32).toInt = 0 := rfl
  have c64 : (64#32).toInt = 64 := rfl
  rw [c0] at a1
  rw [c64] at a2
  have hv := v.isLt
  rw [BitVec.toInt_eq_toNat_cond] at a1 a2
  have hl : v.toNat < 64 := by split at a1 <;> split at a2 <;> omega
  apply BitVec.eq_of_toNat_eq
  rw [BitVec.toNat_ofNat]
  omega

section
variable (m : (ℓ : Loc Cert.KernelIdeal.nD Cert.KernelIdeal.τ Cert.KernelIdeal.sig) → Buf (Elt Ideal) ℓ)
    (h : Cert.Pre_KernelIdeal_labels_and_mask m) (c : Dev Cert.KernelIdeal.nD)

include h in
theorem given_label (b : Fin 128) (s : Fin 512) : ∃ l : Fin 64, m ((c.tc : Thread Cert.KernelIdeal.nD Cert.KernelIdeal.τ).loc Cert.KernelIdeal.main_arg1) (ix2 b s) = BitVec.ofNat 32 l.val := by
  have hh := congrFun (h c).1 (ix2 b s)
  obtain ⟨h1, h2⟩ := andi_ones _ _ hh
  exact ⟨⟨_, Nat.mod_lt _ (by decide)⟩, label_of_bounds _ h1 h2⟩

include h in
theorem given_mask (b : Fin 128) (s : Fin 512) : m ((c.tc : Thread Cert.KernelIdeal.nD Cert.KernelIdeal.τ).loc Cert.KernelIdeal.main_arg2) (ix2 b s) = 1#1 :=
  congrFun (h c).2.1 (ix2 b s)

include h in
theorem given_emit (b : Fin 128) (s : Fin 512) (k : Fin 64) : ∃ r : ℝ, m ((c.tc : Thread Cert.KernelIdeal.nD Cert.KernelIdeal.τ).loc Cert.KernelIdeal.main_arg0) (ix3 b s k) = (r : EReal) := by
  have hh := congrFun (h c).2.2.1 (ix3 b s k)
  obtain ⟨h1, h2⟩ := andi_ones _ _ hh
  exact ⟨_, real_of_bounds _ h1 h2⟩

include h in
theorem given_trans (p k : Fin 64) : ∃ r : ℝ, m ((c.tc : Thread Cert.KernelIdeal.nD Cert.KernelIdeal.τ).loc Cert.KernelIdeal.main_arg3) (ix2 p k) = (r : EReal) := by
  have hh := congrFun (h c).2.2.2.1 (ix2 p k)
  obtain ⟨h1, h2⟩ := andi_ones _ _ hh
  exact ⟨_, real_of_bounds _ h1 h2⟩

include h in
theorem given_end (k : Fin 64) : ∃ r : ℝ, m ((c.tc : Thread Cert.KernelIdeal.nD Cert.KernelIdeal.τ).loc Cert.KernelIdeal.main_arg5) (ix1 k) = (r : EReal) := by
  have hh := congrFun (h c).2.2.2.2 (ix1 k)
  obtain ⟨h1, h2⟩ := andi_ones _ _ hh
  exact ⟨_, real_of_bounds _ h1 h2⟩

end
end Cert.Crf
end
-- ==== Proof.lean ====
/- The proof of the claims: the kernel's frames from its generated frame run, the reference's from its run, and the value claim from the
   two results read as one term, `Cert.Crf.answer`, over what the precondition gives. -/
module

public import proofs.«01_k».proof.Defs
public import proofs.«01_k».proof.Proof.Gen.Kernel.Frame
public import proofs.«01_k».proof.Proof.Gen.KernelIdeal.Value
public import proofs.«01_k».proof.Proof.Gen.Pre_labels_and_mask
public import proofs.«01_k».proof.Proof.Gen.ReferenceIdeal.Run
public import proofs.«01_k».proof.Proof.RefValue
public import proofs.«01_k».proof.Proof.KernelValue
public import proofs.«01_k».proof.Proof.Given
public import Idealize.ShloMosaic.Adequacy
public import Idealize.ShloMosaic.Init
public import Idealize.ShloMosaic.Lib.Quiescent

@[expose] public section

noncomputable section

namespace Cert.Proof

open Idealize.ShloMosaic Idealize.SL.Sem

theorem ref_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem ref_frame_given : quiescent_ReferenceIdeal_pre_labels_and_mask := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_labels_and_mask := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v104_eq]
  obtain ⟨a0, a1, a2, a3, a4, a5⟩ := hagree c
  rw [a0, a1, a2, a3, a4, a5]
  choose lab hlab using Cert.Crf.given_label m hpre c
  choose e he using Cert.Crf.given_emit m hpre c
  choose T hT using Cert.Crf.given_trans m hpre c
  choose en hen using Cert.Crf.given_end m hpre c
  funext i
  have hi : i = ix2 (0 : Fin 1) (0 : Fin 1) := by
    funext a
    match a with
    | ⟨0, _⟩ => exact Subsingleton.elim (α := Fin 1) _ _
    | ⟨1, _⟩ => exact Subsingleton.elim (α := Fin 1) _ _
  rw [hi]
  exact (Cert.ReferenceIdeal.Read.v104_value he hlab (Cert.Crf.given_mask m hpre c) hT hen).trans
    (Cert.KernelIdeal.Steps.G5_value he hlab hT hen).symm

theorem claim : Cert.Claim := ⟨Cert.Kernel.Gen.facts, Cert.KernelIdeal.Gen.facts, Cert.ReferenceIdeal.Gen.facts, Cert.Pre_labels_and_mask.Gen.facts,
  fun m ρ _ => Cert.Kernel.Gen.frame m ρ, fun m ρ _ => Cert.KernelIdeal.Gen.frame m ρ, fun m ρ _ => Cert.KernelIdeal.Gen.frame m ρ, ref_frame, ref_frame_given,
  (trivial : preserves_Kernel_KernelIdeal), algebraic⟩

end Cert.Proof

end
